-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v22_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v22_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3584x1792 : Shape := ⟨3, ![4, 3584, 1792]⟩
abbrev S4x1792x3584 : Shape := ⟨3, ![4, 1792, 3584]⟩
abbrev S4x56x3584 : Shape := ⟨3, ![4, 56, 3584]⟩
abbrev S4x3584 : Shape := ⟨2, ![4, 3584]⟩
abbrev S4x896x1792 : Shape := ⟨3, ![4, 896, 1792]⟩
abbrev S4x28x1792 : Shape := ⟨3, ![4, 28, 1792]⟩
abbrev S4x1792 : Shape := ⟨2, ![4, 1792]⟩
abbrev S4x2x28x3584 : Shape := ⟨4, ![4, 2, 28, 3584]⟩
abbrev S4x3584x3584 : Shape := ⟨3, ![4, 3584, 3584]⟩
abbrev S1x1792x256 : Shape := ⟨3, ![1, 1792, 256]⟩
abbrev S1x1x28x256 : Shape := ⟨4, ![1, 1, 28, 256]⟩
abbrev S1792x256 : Shape := ⟨2, ![1792, 256]⟩
abbrev S28x256 : Shape := ⟨2, ![28, 256]⟩
abbrev S28x64x256 : Shape := ⟨3, ![28, 64, 256]⟩
abbrev S28x1x256 : Shape := ⟨3, ![28, 1, 256]⟩
abbrev S1x3584x512 : Shape := ⟨3, ![1, 3584, 512]⟩
abbrev S1x512x512 : Shape := ⟨3, ![1, 512, 512]⟩
abbrev S3584x512 : Shape := ⟨2, ![3584, 512]⟩
abbrev S512x512 : Shape := ⟨2, ![512, 512]⟩
abbrev S1x512x3584 : Shape := ⟨3, ![1, 512, 3584]⟩
abbrev S512x3584 : Shape := ⟨2, ![512, 3584]⟩
abbrev S4x2x14x1792 : Shape := ⟨4, ![4, 2, 14, 1792]⟩
abbrev S4x1792x1792 : Shape := ⟨3, ![4, 1792, 1792]⟩
abbrev S1x896x256 : Shape := ⟨3, ![1, 896, 256]⟩
abbrev S1x1x14x256 : Shape := ⟨4, ![1, 1, 14, 256]⟩
abbrev S896x256 : Shape := ⟨2, ![896, 256]⟩
abbrev S14x256 : Shape := ⟨2, ![14, 256]⟩
abbrev S14x64x256 : Shape := ⟨3, ![14, 64, 256]⟩
abbrev S14x1x256 : Shape := ⟨3, ![14, 1, 256]⟩
abbrev S1x256x256 : Shape := ⟨3, ![1, 256, 256]⟩
abbrev S256x256 : Shape := ⟨2, ![256, 256]⟩
abbrev S1x256x1792 : Shape := ⟨3, ![1, 256, 1792]⟩
abbrev S256x1792 : Shape := ⟨2, ![256, 1792]⟩
abbrev S_ : Shape := ⟨0, ![]⟩
abbrev S4x3584x1 : Shape := ⟨3, ![4, 3584, 1]⟩
abbrev S4x1x1792 : Shape := ⟨3, ![4, 1, 1792]⟩
abbrev S1x3584x256 : Shape := ⟨3, ![1, 3584, 256]⟩
abbrev S1x512x1 : Shape := ⟨3, ![1, 512, 1]⟩
abbrev S1x512x256 : Shape := ⟨3, ![1, 512, 256]⟩
abbrev S3584x256 : Shape := ⟨2, ![3584, 256]⟩
abbrev S512x256 : Shape := ⟨2, ![512, 256]⟩
abbrev S512x1 : Shape := ⟨2, ![512, 1]⟩
abbrev S1x512x1792 : Shape := ⟨3, ![1, 512, 1792]⟩
abbrev S1x1x256 : Shape := ⟨3, ![1, 1, 256]⟩
abbrev S512x1792 : Shape := ⟨2, ![512, 1792]⟩
abbrev S1x256 : Shape := ⟨2, ![1, 256]⟩
abbrev S1x1x1792 : Shape := ⟨3, ![1, 1, 1792]⟩
abbrev S1x1792 : Shape := ⟨2, ![1, 1792]⟩
abbrev S1792 : Shape := ⟨1, ![1792]⟩
abbrev S1 : Shape := ⟨1, ![1]⟩
abbrev S1x1x1 : Shape := ⟨3, ![1, 1, 1]⟩

abbrev nBuf : Space → Nat
  | .hbm => 38
  | .vmem => 88
  | .smem => 0
  | _ => 0

abbrev bufTy : (tb : Table) → Fin (tcTables nBuf tb) → BufTy
  | .hbm, ⟨0, _⟩ => ⟨S4x3584x1792, .bf16⟩
  | .hbm, ⟨1, _⟩ => ⟨S4x3584x1792, .f32⟩
  | .hbm, ⟨2, _⟩ => ⟨S4x1792x3584, .i8⟩
  | .hbm, ⟨3, _⟩ => ⟨S4x56x3584, .f32⟩
  | .hbm, ⟨4, _⟩ => ⟨S4x3584, .f32⟩
  | .hbm, ⟨5, _⟩ => ⟨S4x896x1792, .i8⟩
  | .hbm, ⟨6, _⟩ => ⟨S4x28x1792, .f32⟩
  | .hbm, ⟨7, _⟩ => ⟨S4x1792, .f32⟩
  | .hbm, ⟨8, _⟩ => ⟨S4x2x28x3584, .f32⟩
  | .hbm, ⟨9, _⟩ => ⟨S4x3584x3584, .bf16⟩
  | .hbm, ⟨10, _⟩ => ⟨S4x3584x3584, .bf16⟩
  | .hbm, ⟨11, _⟩ => ⟨S4x3584x3584, .bf16⟩
  | .hbm, ⟨12, _⟩ => ⟨S4x2x14x1792, .f32⟩
  | .hbm, ⟨13, _⟩ => ⟨S4x1792x1792, .bf16⟩
  | .hbm, ⟨14, _⟩ => ⟨S4x1792x1792, .bf16⟩
  | .hbm, ⟨15, _⟩ => ⟨S4x1792x1792, .bf16⟩
  | .hbm, ⟨16, _⟩ => ⟨S_, .f32⟩
  | .hbm, ⟨17, _⟩ => ⟨S4x3584, .f32⟩
  | .hbm, ⟨18, _⟩ => ⟨S4x3584, .f32⟩
  | .hbm, ⟨19, _⟩ => ⟨S_, .f32⟩
  | .hbm, ⟨20, _⟩ => ⟨S4x3584, .f32⟩
  | .hbm, ⟨21, _⟩ => ⟨S4x3584, .f32⟩
  | .hbm, ⟨22, _⟩ => ⟨S4x3584x1, .f32⟩
  | .hbm, ⟨23, _⟩ => ⟨S_, .f32⟩
  | .hbm, ⟨24, _⟩ => ⟨S4x1792, .f32⟩
  | .hbm, ⟨25, _⟩ => ⟨S4x1792, .f32⟩
  | .hbm, ⟨26, _⟩ => ⟨S_, .f32⟩
  | .hbm, ⟨27, _⟩ => ⟨S4x1792, .f32⟩
  | .hbm, ⟨28, _⟩ => ⟨S4x1792, .f32⟩
  | .hbm, ⟨29, _⟩ => ⟨S4x1x1792, .f32⟩
  | .hbm, ⟨30, _⟩ => ⟨S4x3584x1792, .bf16⟩
  | .hbm, ⟨31, _⟩ => ⟨S4x3584x1792, .bf16⟩
  | .hbm, ⟨32, _⟩ => ⟨S4x3584x1792, .bf16⟩
  | .hbm, ⟨33, _⟩ => ⟨S4x3584x1792, .f32⟩
  | .hbm, ⟨34, _⟩ => ⟨S4x3584x1792, .f32⟩
  | .hbm, ⟨35, _⟩ => ⟨S4x1x1792, .f32⟩
  | .hbm, ⟨36, _⟩ => ⟨S4x1x1792, .f32⟩
  | .hbm, ⟨37, _⟩ => ⟨S4x3584x1792, .f32⟩
  | .local _ .vmem, ⟨0, _⟩ => ⟨S1x1792x256, .i8⟩
  | .local _ .vmem, ⟨1, _⟩ => ⟨S1x1792x256, .i8⟩
  | .local _ .vmem, ⟨2, _⟩ => ⟨S1x1x28x256, .f32⟩
  | .local _ .vmem, ⟨3, _⟩ => ⟨S1x1x28x256, .f32⟩
  | .local _ .vmem, ⟨4, _⟩ => ⟨S1x1792x256, .bf16⟩
  | .local _ .vmem, ⟨5, _⟩ => ⟨S1x1792x256, .bf16⟩
  | .local _ .vmem, ⟨6, _⟩ => ⟨S1x3584x512, .bf16⟩
  | .local _ .vmem, ⟨7, _⟩ => ⟨S1x3584x512, .bf16⟩
  | .local _ .vmem, ⟨8, _⟩ => ⟨S1x3584x512, .bf16⟩
  | .local _ .vmem, ⟨9, _⟩ => ⟨S1x3584x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x3584, .bf16⟩
  | .local _ .vmem, ⟨13, _⟩ => ⟨S1x512x3584, .bf16⟩
  | .local _ .vmem, ⟨14, _⟩ => ⟨S1x3584x512, .bf16⟩
  | .local _ .vmem, ⟨15, _⟩ => ⟨S1x3584x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x896x256, .i8⟩
  | .local _ .vmem, ⟨21, _⟩ => ⟨S1x896x256, .i8⟩
  | .local _ .vmem, ⟨22, _⟩ => ⟨S1x1x14x256, .f32⟩
  | .local _ .vmem, ⟨23, _⟩ => ⟨S1x1x14x256, .f32⟩
  | .local _ .vmem, ⟨24, _⟩ => ⟨S1x896x256, .bf16⟩
  | .local _ .vmem, ⟨25, _⟩ => ⟨S1x896x256, .bf16⟩
  | .local _ .vmem, ⟨26, _⟩ => ⟨S1x1792x256, .bf16⟩
  | .local _ .vmem, ⟨27, _⟩ => ⟨S1x1792x256, .bf16⟩
  | .local _ .vmem, ⟨28, _⟩ => ⟨S1x1792x256, .bf16⟩
  | .local _ .vmem, ⟨29, _⟩ => ⟨S1x1792x256, .bf16⟩
  | .local _ .vmem, ⟨30, _⟩ => ⟨S1x256x256, .bf16⟩
  | .local _ .vmem, ⟨31, _⟩ => ⟨S1x256x256, .bf16⟩
  | .local _ .vmem, ⟨32, _⟩ => ⟨S1x256x1792, .bf16⟩
  | .local _ .vmem, ⟨33, _⟩ => ⟨S1x256x1792, .bf16⟩
  | .local _ .vmem, ⟨34, _⟩ => ⟨S1x1792x256, .bf16⟩
  | .local _ .vmem, ⟨35, _⟩ => ⟨S1x1792x256, .bf16⟩
  | .local _ .vmem, ⟨36, _⟩ => ⟨S1x256x256, .bf16⟩
  | .local _ .vmem, ⟨37, _⟩ => ⟨S1x256x256, .bf16⟩
  | .local _ .vmem, ⟨38, _⟩ => ⟨S1x256x256, .bf16⟩
  | .local _ .vmem, ⟨39, _⟩ => ⟨S1x256x256, .bf16⟩
  | .local _ .vmem, ⟨40, _⟩ => ⟨S1x3584x512, .bf16⟩
  | .local _ .vmem, ⟨41, _⟩ => ⟨S1x3584x512, .bf16⟩
  | .local _ .vmem, ⟨42, _⟩ => ⟨S1x3584x256, .bf16⟩
  | .local _ .vmem, ⟨43, _⟩ => ⟨S1x3584x256, .bf16⟩
  | .local _ .vmem, ⟨44, _⟩ => ⟨S1x512x1, .f32⟩
  | .local _ .vmem, ⟨45, _⟩ => ⟨S1x512x1, .f32⟩
  | .local _ .vmem, ⟨46, _⟩ => ⟨S1x512x256, .bf16⟩
  | .local _ .vmem, ⟨47, _⟩ => ⟨S1x512x256, .bf16⟩
  | .local _ .vmem, ⟨48, _⟩ => ⟨S1x512x1792, .bf16⟩
  | .local _ .vmem, ⟨49, _⟩ => ⟨S1x512x1792, .bf16⟩
  | .local _ .vmem, ⟨50, _⟩ => ⟨S1x1792x256, .bf16⟩
  | .local _ .vmem, ⟨51, _⟩ => ⟨S1x1792x256, .bf16⟩
  | .local _ .vmem, ⟨52, _⟩ => ⟨S1x1x256, .f32⟩
  | .local _ .vmem, ⟨53, _⟩ => ⟨S1x1x256, .f32⟩
  | .local _ .vmem, ⟨54, _⟩ => ⟨S1x512x256, .bf16⟩
  | .local _ .vmem, ⟨55, _⟩ => ⟨S1x512x256, .bf16⟩
  | .local _ .vmem, ⟨56, _⟩ => ⟨S1x512x3584, .bf16⟩
  | .local _ .vmem, ⟨57, _⟩ => ⟨S1x512x3584, .bf16⟩
  | .local _ .vmem, ⟨58, _⟩ => ⟨S1x3584x256, .bf16⟩
  | .local _ .vmem, ⟨59, _⟩ => ⟨S1x3584x256, .bf16⟩
  | .local _ .vmem, ⟨60, _⟩ => ⟨S1x512x256, .bf16⟩
  | .local _ .vmem, ⟨61, _⟩ => ⟨S1x512x256, .bf16⟩
  | .local _ .vmem, ⟨62, _⟩ => ⟨S1x512x1792, .bf16⟩
  | .local _ .vmem, ⟨63, _⟩ => ⟨S1x512x1792, .bf16⟩
  | .local _ .vmem, ⟨64, _⟩ => ⟨S1x256x1792, .bf16⟩
  | .local _ .vmem, ⟨65, _⟩ => ⟨S1x256x1792, .bf16⟩
  | .local _ .vmem, ⟨66, _⟩ => ⟨S1x512x256, .f32⟩
  | .local _ .vmem, ⟨67, _⟩ => ⟨S1x512x256, .f32⟩
  | .local _ .vmem, ⟨68, _⟩ => ⟨S1x512x1792, .bf16⟩
  | .local _ .vmem, ⟨69, _⟩ => ⟨S1x512x1792, .bf16⟩
  | .local _ .vmem, ⟨70, _⟩ => ⟨S1x512x1792, .f32⟩
  | .local _ .vmem, ⟨71, _⟩ => ⟨S1x512x1792, .f32⟩
  | .local _ .vmem, ⟨72, _⟩ => ⟨S1x512x1792, .f32⟩
  | .local _ .vmem, ⟨73, _⟩ => ⟨S1x512x1792, .f32⟩
  | .local _ .vmem, ⟨74, _⟩ => ⟨S1x1x1792, .f32⟩
  | .local _ .vmem, ⟨75, _⟩ => ⟨S1x1x1792, .f32⟩
  | .local _ .vmem, ⟨76, _⟩ => ⟨S1x512x1792, .f32⟩
  | .local _ .vmem, ⟨77, _⟩ => ⟨S1x512x1792, .f32⟩
  | .local _ .vmem, ⟨78, _⟩ => ⟨S1x1x1792, .f32⟩
  | .local _ .vmem, ⟨79, _⟩ => ⟨S1x1x1792, .f32⟩
  | .local _ .vmem, ⟨80, _⟩ => ⟨S1x512x1792, .f32⟩
  | .local _ .vmem, ⟨81, _⟩ => ⟨S1x512x1792, .f32⟩
  | .local _ .vmem, ⟨82, _⟩ => ⟨S1x1x1792, .f32⟩
  | .local _ .vmem, ⟨83, _⟩ => ⟨S1x1x1792, .f32⟩
  | .local _ .vmem, ⟨84, _⟩ => ⟨S1x1x1792, .f32⟩
  | .local _ .vmem, ⟨85, _⟩ => ⟨S1x1x1792, .f32⟩
  | .local _ .vmem, ⟨86, _⟩ => ⟨S1x512x1792, .f32⟩
  | .local _ .vmem, ⟨87, _⟩ => ⟨S1x512x1792, .f32⟩
  | _, _ => ⟨S4x3584x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg2_1 : Ref sig .tc := ⟨.vmem, 67, rfl⟩
abbrev cc10_stg0_0 : Ref sig .tc := ⟨.vmem, 68, rfl⟩
abbrev cc10_stg0_1 : Ref sig .tc := ⟨.vmem, 69, rfl⟩
abbrev cc10_stg1_0 : Ref sig .tc := ⟨.vmem, 70, rfl⟩
abbrev cc10_stg1_1 : Ref sig .tc := ⟨.vmem, 71, rfl⟩
abbrev cc10_stg2_0 : Ref sig .tc := ⟨.vmem, 72, rfl⟩
abbrev cc10_stg2_1 : Ref sig .tc := ⟨.vmem, 73, rfl⟩
abbrev cc10_stg3_0 : Ref sig .tc := ⟨.vmem, 74, rfl⟩
abbrev cc10_stg3_1 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg1_1 : Ref sig .tc := ⟨.vmem, 79, rfl⟩
abbrev cc12_stg0_0 : Ref sig .tc := ⟨.vmem, 80, rfl⟩
abbrev cc12_stg0_1 : Ref sig .tc := ⟨.vmem, 81, rfl⟩
abbrev cc12_stg1_0 : Ref sig .tc := ⟨.vmem, 82, rfl⟩
abbrev cc12_stg1_1 : Ref sig .tc := ⟨.vmem, 83, rfl⟩
abbrev cc12_stg2_0 : Ref sig .tc := ⟨.vmem, 84, rfl⟩
abbrev cc12_stg2_1 : Ref sig .tc := ⟨.vmem, 85, rfl⟩
abbrev cc12_stg3_0 : Ref sig .tc := ⟨.vmem, 86, rfl⟩
abbrev cc12_stg3_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem2_1 : DmaSem sig := 61
abbrev cc9_sem0_0 : DmaSem sig := 62
abbrev cc9_sem0_1 : DmaSem sig := 63
abbrev cc9_sem1_0 : DmaSem sig := 64
abbrev cc9_sem1_1 : DmaSem sig := 65
abbrev cc9_sem2_0 : DmaSem sig := 66
abbrev cc9_sem2_1 : DmaSem sig := 67
abbrev cc10_sem0_0 : DmaSem sig := 68
abbrev cc10_sem0_1 : DmaSem sig := 69
abbrev cc10_sem1_0 : DmaSem sig := 70
abbrev cc10_sem1_1 : DmaSem sig := 71
abbrev cc10_sem2_0 : DmaSem sig := 72
abbrev cc10_sem2_1 : DmaSem sig := 73
abbrev cc10_sem3_0 : DmaSem sig := 74
abbrev cc10_sem3_1 : DmaSem sig := 75
abbrev cc11_sem0_0 : DmaSem sig := 76
abbrev cc11_sem0_1 : DmaSem sig := 77
abbrev cc11_sem1_0 : DmaSem sig := 78
abbrev cc11_sem1_1 : DmaSem sig := 79
abbrev cc12_sem0_0 : DmaSem sig := 80
abbrev cc12_sem0_1 : DmaSem sig := 81
abbrev cc12_sem1_0 : DmaSem sig := 82
abbrev cc12_sem1_1 : DmaSem sig := 83
abbrev cc12_sem2_0 : DmaSem sig := 84
abbrev cc12_sem2_1 : DmaSem sig := 85
abbrev cc12_sem3_0 : DmaSem sig := 86
abbrev cc12_sem3_1 : DmaSem sig := 87

abbrev nD : Nat := 1
abbrev τ : Topo := Topo.v7x

variable {F : FTy → Type} [FloatOps F]

abbrev grid0 : Pipeline.Grid := ⟨3, ![4, 2, 14], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1792x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x28x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1792x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![4, 7, 7], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x3584x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x3584x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := ⟨3, ![4, 7, 7], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x512x3584 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x3584x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨3, ![4, 2, 7], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 2 → Memref sig .tc .vmem S1x896x256 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x1x14x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S1x896x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev grid4 : Pipeline.Grid := ⟨3, ![4, 7, 7], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage4_0 : Fin 2 → Memref sig .tc .vmem S1x1792x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false]

abbrev stage4_1 : Fin 2 → Memref sig .tc .vmem S1x1792x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x256x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true]

abbrev grid5 : Pipeline.Grid := ⟨3, ![4, 7, 7], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage5_0 : Fin 2 → Memref sig .tc .vmem S1x256x1792 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, false]

abbrev stage5_1 : Fin 2 → Memref sig .tc .vmem S1x1792x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1x256x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true]

abbrev stage5_3 : Fin 2 → Memref sig .tc .vmem S1x256x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, true]

abbrev grid6 : Pipeline.Grid := ⟨3, ![4, 7, 7], ![false, false, false]⟩

def cc6_transform_0 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc6_transform_3 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage6_0 : Fin 2 → Memref sig .tc .vmem S1x3584x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true, false]

abbrev stage6_1 : Fin 2 → Memref sig .tc .vmem S1x3584x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true]

abbrev stage6_2 : Fin 2 → Memref sig .tc .vmem S1x512x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S1x512x256 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, true]

abbrev grid7 : Pipeline.Grid := ⟨3, ![4, 7, 7], ![false, false, false]⟩

def cc7_transform_0 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc7_transform_3 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage7_0 : Fin 2 → Memref sig .tc .vmem S1x512x1792 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true, false]

abbrev stage7_1 : Fin 2 → Memref sig .tc .vmem S1x1792x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false, true]

abbrev stage7_2 : Fin 2 → Memref sig .tc .vmem S1x1x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false, true]

abbrev stage7_3 : Fin 2 → Memref sig .tc .vmem S1x512x256 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, true]

abbrev grid8 : Pipeline.Grid := ⟨3, ![4, 7, 7], ![false, false, false]⟩

def cc8_transform_0 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage8_0 : Fin 2 → Memref sig .tc .vmem S1x512x3584 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true, false]

abbrev stage8_1 : Fin 2 → Memref sig .tc .vmem S1x3584x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false, true]

abbrev stage8_2 : Fin 2 → Memref sig .tc .vmem S1x512x256 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, true]

abbrev grid9 : Pipeline.Grid := ⟨3, ![4, 7, 7], ![false, false, false]⟩

def cc9_transform_0 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage9_0 : Fin 2 → Memref sig .tc .vmem S1x512x1792 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true, false]

abbrev stage9_1 : Fin 2 → Memref sig .tc .vmem S1x256x1792 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false, true]

abbrev stage9_2 : Fin 2 → Memref sig .tc .vmem S1x512x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, true]

abbrev grid10 : Pipeline.Grid := ⟨2, ![4, 7], ![false, false]⟩

def cc10_transform_0 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_2 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_3 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x512x1792 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1x512x1792 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 2 → Memref sig .tc .vmem S1x512x1792 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 2 → Memref sig .tc .vmem S1x1x1792 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨2, ![4, 7], ![false, false]⟩

def cc11_transform_0 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc11_transform_1 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x512x1792 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S1x1x1792 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, false]

abbrev grid12 : Pipeline.Grid := ⟨2, ![4, 7], ![false, false]⟩

def cc12_transform_0 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc12_transform_1 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc12_transform_2 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc12_transform_3 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage12_0 : Fin 2 → Memref sig .tc .vmem S1x512x1792 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S1x1x1792 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, false]

abbrev stage12_2 : Fin 2 → Memref sig .tc .vmem S1x1x1792 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, false]

abbrev stage12_3 : Fin 2 → Memref sig .tc .vmem S1x512x1792 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true]
-- ==== ReferenceIdeal.lean ====
abbrev S4x3584x1792 : Shape := ⟨3, ![4, 3584, 1792]⟩
abbrev S4x1792x3584 : Shape := ⟨3, ![4, 1792, 3584]⟩
abbrev S4x56x3584 : Shape := ⟨3, ![4, 56, 3584]⟩
abbrev S4x3584 : Shape := ⟨2, ![4, 3584]⟩
abbrev S4x896x1792 : Shape := ⟨3, ![4, 896, 1792]⟩
abbrev S4x28x1792 : Shape := ⟨3, ![4, 28, 1792]⟩
abbrev S4x1792 : Shape := ⟨2, ![4, 1792]⟩
abbrev S_ : Shape := ⟨0, ![]⟩
abbrev S4x1x1792x3584 : Shape := ⟨4, ![4, 1, 1792, 3584]⟩
abbrev S4x2x1792x3584 : Shape := ⟨4, ![4, 2, 1792, 3584]⟩
abbrev S4x56x64x3584 : Shape := ⟨4, ![4, 56, 64, 3584]⟩
abbrev S4x56x1x3584 : Shape := ⟨4, ![4, 56, 1, 3584]⟩
abbrev S4x3584x3584 : Shape := ⟨3, ![4, 3584, 3584]⟩
abbrev S3584x3584 : Shape := ⟨2, ![3584, 3584]⟩
abbrev S1x3584x3584 : Shape := ⟨3, ![1, 3584, 3584]⟩
abbrev S4x1x896x1792 : Shape := ⟨4, ![4, 1, 896, 1792]⟩
abbrev S4x2x896x1792 : Shape := ⟨4, ![4, 2, 896, 1792]⟩
abbrev S4x28x64x1792 : Shape := ⟨4, ![4, 28, 64, 1792]⟩
abbrev S4x28x1x1792 : Shape := ⟨4, ![4, 28, 1, 1792]⟩
abbrev S4x1792x1792 : Shape := ⟨3, ![4, 1792, 1792]⟩
abbrev S1792x1792 : Shape := ⟨2, ![1792, 1792]⟩
abbrev S1x1792x1792 : Shape := ⟨3, ![1, 1792, 1792]⟩
abbrev S4x3584x1 : Shape := ⟨3, ![4, 3584, 1]⟩
abbrev S4x1x1792 : Shape := ⟨3, ![4, 1, 1792]⟩
abbrev S4 : Shape := ⟨1, ![4]⟩
abbrev S4x1x1 : Shape := ⟨3, ![4, 1, 1]⟩

abbrev nBuf : Space → Nat
  | .hbm => 158
  | .vmem => 0
  | .smem => 0
  | _ => 0

abbrev hbmTy0_0 (i : Nat) : BufTy := match i % 128 with
  | 0 => ⟨S4x3584x1792, .bf16⟩
  | 1 => ⟨S4x3584x1792, .f32⟩
  | 2 => ⟨S4x1792x3584, .i8⟩
  | 3 => ⟨S4x56x3584, .f32⟩
  | 4 => ⟨S4x3584, .f32⟩
  | 5 => ⟨S4x896x1792, .i8⟩
  | 6 => ⟨S4x28x1792, .f32⟩
  | 7 => ⟨S4x1792, .f32⟩
  | 8 => ⟨S4x1792x3584, .i32⟩
  | 9 => ⟨S_, .i32⟩
  | 10 => ⟨S4x1792x3584, .i32⟩
  | 11 => ⟨S4x1792x3584, .i32⟩
  | 12 => ⟨S_, .i32⟩
  | 13 => ⟨S4x1792x3584, .i32⟩
  | 14 => ⟨S4x1792x3584, .i1⟩
  | 15 => ⟨S_, .i32⟩
  | 16 => ⟨S4x1792x3584, .i32⟩
  | 17 => ⟨S4x1792x3584, .i32⟩
  | 18 => ⟨S4x1792x3584, .i32⟩
  | 19 => ⟨S_, .i32⟩
  | 20 => ⟨S4x1792x3584, .i32⟩
  | 21 => ⟨S4x1792x3584, .i32⟩
  | 22 => ⟨S_, .i32⟩
  | 23 => ⟨S4x1792x3584, .i32⟩
  | 24 => ⟨S4x1792x3584, .i1⟩
  | 25 => ⟨S_, .i32⟩
  | 26 => ⟨S4x1792x3584, .i32⟩
  | 27 => ⟨S4x1792x3584, .i32⟩
  | 28 => ⟨S4x1792x3584, .i32⟩
  | 29 => ⟨S4x1x1792x3584, .i32⟩
  | 30 => ⟨S4x1x1792x3584, .i32⟩
  | 31 => ⟨S4x2x1792x3584, .i32⟩
  | 32 => ⟨S4x56x64x3584, .i32⟩
  | 33 => ⟨S4x56x64x3584, .bf16⟩
  | 34 => ⟨S4x56x3584, .bf16⟩
  | 35 => ⟨S4x56x1x3584, .bf16⟩
  | 36 => ⟨S4x56x64x3584, .bf16⟩
  | 37 => ⟨S4x56x64x3584, .bf16⟩
  | 38 => ⟨S4x3584x3584, .bf16⟩
  | 39 => ⟨S4x3584x3584, .f32⟩
  | 40 => ⟨S3584x3584, .i32⟩
  | 41 => ⟨S3584x3584, .i32⟩
  | 42 => ⟨S_, .i32⟩
  | 43 => ⟨S3584x3584, .i32⟩
  | 44 => ⟨S3584x3584, .i32⟩
  | 45 => ⟨S3584x3584, .i1⟩
  | 46 => ⟨S3584x3584, .f32⟩
  | 47 => ⟨S1x3584x3584, .f32⟩
  | 48 => ⟨S4x3584x3584, .f32⟩
  | 49 => ⟨S4x3584x3584, .f32⟩
  | 50 => ⟨S4x3584x3584, .bf16⟩
  | 51 => ⟨S4x3584x3584, .f32⟩
  | 52 => ⟨S4x3584x3584, .f32⟩
  | 53 => ⟨S_, .f32⟩
  | 54 => ⟨S4x3584x3584, .f32⟩
  | 55 => ⟨S4x3584x3584, .f32⟩
  | 56 => ⟨S4x3584x3584, .f32⟩
  | 57 => ⟨S4x3584x3584, .bf16⟩
  | 58 => ⟨S_, .f32⟩
  | 59 => ⟨S4x3584, .f32⟩
  | 60 => ⟨S4x3584, .f32⟩
  | 61 => ⟨S_, .f32⟩
  | 62 => ⟨S4x3584, .f32⟩
  | 63 => ⟨S4x3584, .f32⟩
  | 64 => ⟨S4x896x1792, .i32⟩
  | 65 => ⟨S_, .i32⟩
  | 66 => ⟨S4x896x1792, .i32⟩
  | 67 => ⟨S4x896x1792, .i32⟩
  | 68 => ⟨S_, .i32⟩
  | 69 => ⟨S4x896x1792, .i32⟩
  | 70 => ⟨S4x896x1792, .i1⟩
  | 71 => ⟨S_, .i32⟩
  | 72 => ⟨S4x896x1792, .i32⟩
  | 73 => ⟨S4x896x1792, .i32⟩
  | 74 => ⟨S4x896x1792, .i32⟩
  | 75 => ⟨S_, .i32⟩
  | 76 => ⟨S4x896x1792, .i32⟩
  | 77 => ⟨S4x896x1792, .i32⟩
  | 78 => ⟨S_, .i32⟩
  | 79 => ⟨S4x896x1792, .i32⟩
  | 80 => ⟨S4x896x1792, .i1⟩
  | 81 => ⟨S_, .i32⟩
  | 82 => ⟨S4x896x1792, .i32⟩
  | 83 => ⟨S4x896x1792, .i32⟩
  | 84 => ⟨S4x896x1792, .i32⟩
  | 85 => ⟨S4x1x896x1792, .i32⟩
  | 86 => ⟨S4x1x896x1792, .i32⟩
  | 87 => ⟨S4x2x896x1792, .i32⟩
  | 88 => ⟨S4x28x64x1792, .i32⟩
  | 89 => ⟨S4x28x64x1792, .bf16⟩
  | 90 => ⟨S4x28x1792, .bf16⟩
  | 91 => ⟨S4x28x1x1792, .bf16⟩
  | 92 => ⟨S4x28x64x1792, .bf16⟩
  | 93 => ⟨S4x28x64x1792, .bf16⟩
  | 94 => ⟨S4x1792x1792, .bf16⟩
  | 95 => ⟨S4x1792x1792, .f32⟩
  | 96 => ⟨S1792x1792, .i32⟩
  | 97 => ⟨S1792x1792, .i32⟩
  | 98 => ⟨S_, .i32⟩
  | 99 => ⟨S1792x1792, .i32⟩
  | 100 => ⟨S1792x1792, .i32⟩
  | 101 => ⟨S1792x1792, .i1⟩
  | 102 => ⟨S1792x1792, .f32⟩
  | 103 => ⟨S1x1792x1792, .f32⟩
  | 104 => ⟨S4x1792x1792, .f32⟩
  | 105 => ⟨S4x1792x1792, .f32⟩
  | 106 => ⟨S4x1792x1792, .bf16⟩
  | 107 => ⟨S4x1792x1792, .f32⟩
  | 108 => ⟨S4x1792x1792, .f32⟩
  | 109 => ⟨S_, .f32⟩
  | 110 => ⟨S4x1792x1792, .f32⟩
  | 111 => ⟨S4x1792x1792, .f32⟩
  | 112 => ⟨S4x1792x1792, .f32⟩
  | 113 => ⟨S4x1792x1792, .bf16⟩
  | 114 => ⟨S_, .f32⟩
  | 115 => ⟨S4x1792, .f32⟩
  | 116 => ⟨S4x1792, .f32⟩
  | 117 => ⟨S_, .f32⟩
  | 118 => ⟨S4x1792, .f32⟩
  | 119 => ⟨S4x1792, .f32⟩
  | 120 => ⟨S4x3584x1792, .f32⟩
  | 121 => ⟨S4x3584x1, .f32⟩
  | 122 => ⟨S4x3584x1792, .f32⟩
  | 123 => ⟨S4x3584x1792, .f32⟩
  | 124 => ⟨S4x3584x1792, .bf16⟩
  | 125 => ⟨S4x3584x1792, .f32⟩
  | 126 => ⟨S4x1x1792, .f32⟩
  | 127 => ⟨S4x3584x1792, .f32⟩
  | _ => ⟨S4x3584x1792, .bf16⟩

abbrev hbmTy0_1 (i : Nat) : BufTy := match i % 128 with
  | 0 => ⟨S4x3584x1792, .f32⟩
  | 1 => ⟨S4x3584x1792, .bf16⟩
  | 2 => ⟨S4x3584x1792, .f32⟩
  | 3 => ⟨S4x3584x1792, .bf16⟩
  | 4 => ⟨S4x3584x1792, .f32⟩
  | 5 => ⟨S4x3584x1792, .f32⟩
  | 6 => ⟨S4x3584x1792, .f32⟩
  | 7 => ⟨S_, .f32⟩
  | 8 => ⟨S4x3584x1792, .f32⟩
  | 9 => ⟨S4x3584x1792, .f32⟩
  | 10 => ⟨S4x3584x1792, .f32⟩
  | 11 => ⟨S4x3584x1792, .f32⟩
  | 12 => ⟨S_, .f32⟩
  | 13 => ⟨S4, .f32⟩
  | 14 => ⟨S4, .f32⟩
  | 15 => ⟨S4x3584x1792, .f32⟩
  | 16 => ⟨S_, .f32⟩
  | 17 => ⟨S4, .f32⟩
  | 18 => ⟨S4, .f32⟩
  | 19 => ⟨S_, .f32⟩
  | 20 => ⟨S4, .f32⟩
  | 21 => ⟨S4, .i1⟩
  | 22 => ⟨S_, .f32⟩
  | 23 => ⟨S_, .f32⟩
  | 24 => ⟨S4, .f32⟩
  | 25 => ⟨S4, .f32⟩
  | 26 => ⟨S4, .f32⟩
  | 27 => ⟨S4x1x1, .f32⟩
  | 28 => ⟨S4x3584x1792, .f32⟩
  | 29 => ⟨S4x3584x1792, .f32⟩
  | _ => ⟨S4x3584x1792, .bf16⟩

abbrev hbmTy (i : Nat) : BufTy := match i / 128 with
  | 0 => hbmTy0_0 i
  | 1 => hbmTy0_1 i
  | _ => ⟨S4x3584x1792, .bf16⟩

abbrev bufTy : (tb : Table) → Fin (tcTables nBuf tb) → BufTy
  | .hbm, ⟨i, _⟩ => hbmTy i
  | _, _ => ⟨S4x3584x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_15 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_16 : Ref sig .tc := ⟨.hbm, 114, rfl⟩
abbrev main_v88 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_18 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_19 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_20 : Ref sig .tc := ⟨.hbm, 144, rfl⟩
abbrev main_v114 : Ref sig .tc := ⟨.hbm, 145, rfl⟩
abbrev main_v115 : Ref sig .tc := ⟨.hbm, 146, rfl⟩
abbrev main_cst_21 : Ref sig .tc := ⟨.hbm, 147, rfl⟩
abbrev main_v116 : Ref sig .tc := ⟨.hbm, 148, rfl⟩
abbrev main_v117 : Ref sig .tc := ⟨.hbm, 149, rfl⟩
abbrev main_cst_22 : Ref sig .tc := ⟨.hbm, 150, rfl⟩
abbrev main_call4_v0 : Ref sig .tc := ⟨.hbm, 151, rfl⟩
abbrev main_call4_v1 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩

abbrev nD : Nat := 1
abbrev τ : Topo := Topo.v7x

variable {F : FTy → Type} [FloatOps F]
-- ==== Proof.Spec.lean ====
/- What the reference computes, cut at the arrays that the kernel also stores: each definition is a fragment of the
   reference's own term, over plain array variables. -/
module

public import proofs.«01_k».proof.Proof.Gen.ReferenceIdeal.Run
public import Idealize.ShloMosaic.Lib.Pointwise

@[expose] public section

set_option maxRecDepth 16384

noncomputable section

namespace Cert.Spec

open Idealize.ShloMosaic Idealize.ShloMosaic.TcCoe Idealize.SL.Sem
open Cert.ReferenceIdeal Cert.ReferenceIdeal.Gen

/-- A nibble 0 … 15 read as a signed number -8 … 7 (left side). -/
def nibbleL (c : IVec S4x1792x3584 32) : IVec S4x1792x3584 32 :=
  select (cmpi .sge c (broadcastInDim S4x1792x3584 ![] bcast_S_S4x1792x3584 (constantI S_ 32 8#32))) (subi c (broadcastInDim S4x1792x3584 ![] bcast_S_S4x1792x3584 (constantI S_ 32 16#32))) c

/-- The decoded matrix of the left side: the low nibbles are its upper half of rows and the high nibbles its lower half, each
    multiplied by its block's scale. -/
def decodeL (codes : IVec S4x1792x3584 8) (scales : FVec Ideal S4x56x3584 .f32) : FVec Ideal S4x3584x3584 .bf16 :=
  shapeCast _ (mulf (sitofp .bf16 (shapeCast _ (concatenate S4x2x1792x3584 1
      [⟨S4x1x1792x3584, broadcastInDim S4x1x1792x3584 ![0, 2, 3] bcast_S4x1792x3584_S4x1x1792x3584_0_2_3 (nibbleL (andi (extui 32 codes natLt_8_32) (broadcastInDim S4x1792x3584 ![] bcast_S_S4x1792x3584 (constantI S_ 32 15#32))))⟩,
       ⟨S4x1x1792x3584, broadcastInDim S4x1x1792x3584 ![0, 2, 3] bcast_S4x1792x3584_S4x1x1792x3584_0_2_3 (nibbleL (Host.shrsi (extui 32 codes natLt_8_32) (broadcastInDim S4x1792x3584 ![] bcast_S_S4x1792x3584 (constantI S_ 32 4#32))))⟩]
      concatenates_S4x1x1792x3584_S4x1x1792x3584_S4x2x1792x3584_d1) shapeCasts_S4x2x1792x3584_S4x56x64x3584))
    (broadcastInDim S4x56x64x3584 ![0, 1, 2, 3] bcast_S4x56x1x3584_S4x56x64x3584_0_1_2_3
      (broadcastInDim S4x56x1x3584 ![0, 1, 3] bcast_S4x56x3584_S4x56x1x3584_0_1_3 (truncf .bf16 scales bitsLt_bf16_f32)))) shapeCasts_S4x56x64x3584_S4x3584x3584

/-- The Gram matrix's distance from the identity (left side): `uᵀ u - 1`. -/
def gramL (u : FVec Ideal S4x3584x3584 .bf16) : FVec Ideal S4x3584x3584 .bf16 :=
  truncf .bf16 (subf (Host.dotGeneral (F := Ideal) dot_S4x3584x3584_S4x3584x3584_S4x3584x3584_1_1_2_2_0_0 none u u)
    (broadcastInDim S4x3584x3584 ![0, 1, 2] bcast_S1x3584x3584_S4x3584x3584_0_1_2 (broadcastInDim S1x3584x3584 ![1, 2] bcast_S3584x3584_S1x3584x3584_1_2
      (uitofp .f32 (cmpi .eq (addi (iotaInDim S3584x3584 32 0) (broadcastInDim S3584x3584 ![] bcast_S_S3584x3584 (constantI S_ 32 0#32))) (iotaInDim S3584x3584 32 1)))))) bitsLt_bf16_f32

/-- One Björck step (left side): `u - 0.5 u e`. -/
def stepL (u e : FVec Ideal S4x3584x3584 .bf16) : FVec Ideal S4x3584x3584 .bf16 :=
  truncf .bf16 (subf (extf .f32 u bitsLt_bf16_f32) (mulf (broadcastInDim S4x3584x3584 ![] bcast_S_S4x3584x3584 (constant S_ .f32 0x3F000000#32))
    (Host.dotGeneral (F := Ideal) dot_S4x3584x3584_S4x3584x3584_S4x3584x3584_2_1_1_2_0_0 none u e))) bitsLt_bf16_f32

/-- The eigenvectors after one Björck step of the left side. -/
def basisL (codes : IVec S4x1792x3584 8) (scales : FVec Ideal S4x56x3584 .f32) : FVec Ideal S4x3584x3584 .bf16 :=
  stepL (decodeL codes scales) (gramL (decodeL codes scales))

/-- A nibble 0 … 15 read as a signed number -8 … 7 (right side). -/
def nibbleR (c : IVec S4x896x1792 32) : IVec S4x896x1792 32 :=
  select (cmpi .sge c (broadcastInDim S4x896x1792 ![] bcast_S_S4x896x1792 (constantI S_ 32 8#32))) (subi c (broadcastInDim S4x896x1792 ![] bcast_S_S4x896x1792 (constantI S_ 32 16#32))) c

/-- The decoded matrix of the right side: the low nibbles are its upper half of rows and the high nibbles its lower half, each
    multiplied by its block's scale. -/
def decodeR (codes : IVec S4x896x1792 8) (scales : FVec Ideal S4x28x1792 .f32) : FVec Ideal S4x1792x1792 .bf16 :=
  shapeCast _ (mulf (sitofp .bf16 (shapeCast _ (concatenate S4x2x896x1792 1
      [⟨S4x1x896x1792, broadcastInDim S4x1x896x1792 ![0, 2, 3] bcast_S4x896x1792_S4x1x896x1792_0_2_3 (nibbleR (andi (extui 32 codes natLt_8_32) (broadcastInDim S4x896x1792 ![] bcast_S_S4x896x1792 (constantI S_ 32 15#32))))⟩,
       ⟨S4x1x896x1792, broadcastInDim S4x1x896x1792 ![0, 2, 3] bcast_S4x896x1792_S4x1x896x1792_0_2_3 (nibbleR (Host.shrsi (extui 32 codes natLt_8_32) (broadcastInDim S4x896x1792 ![] bcast_S_S4x896x1792 (constantI S_ 32 4#32))))⟩]
      concatenates_S4x1x896x1792_S4x1x896x1792_S4x2x896x1792_d1) shapeCasts_S4x2x896x1792_S4x28x64x1792))
    (broadcastInDim S4x28x64x1792 ![0, 1, 2, 3] bcast_S4x28x1x1792_S4x28x64x1792_0_1_2_3
      (broadcastInDim S4x28x1x1792 ![0, 1, 3] bcast_S4x28x1792_S4x28x1x1792_0_1_3 (truncf .bf16 scales bitsLt_bf16_f32)))) shapeCasts_S4x28x64x1792_S4x1792x1792

/-- The Gram matrix's distance from the identity (right side): `uᵀ u - 1`. -/
def gramR (u : FVec Ideal S4x1792x1792 .bf16) : FVec Ideal S4x1792x1792 .bf16 :=
  truncf .bf16 (subf (Host.dotGeneral (F := Ideal) dot_S4x1792x1792_S4x1792x1792_S4x1792x1792_1_1_2_2_0_0 none u u)
    (broadcastInDim S4x1792x1792 ![0, 1, 2] bcast_S1x1792x1792_S4x1792x1792_0_1_2 (broadcastInDim S1x1792x1792 ![1, 2] bcast_S1792x1792_S1x1792x1792_1_2
      (uitofp .f32 (cmpi .eq (addi (iotaInDim S1792x1792 32 0) (broadcastInDim S1792x1792 ![] bcast_S_S1792x1792 (constantI S_ 32 0#32))) (iotaInDim S1792x1792 32 1)))))) bitsLt_bf16_f32

/-- One Björck step (right side): `u - 0.5 u e`. -/
def stepR (u e : FVec Ideal S4x1792x1792 .bf16) : FVec Ideal S4x1792x1792 .bf16 :=
  truncf .bf16 (subf (extf .f32 u bitsLt_bf16_f32) (mulf (broadcastInDim S4x1792x1792 ![] bcast_S_S4x1792x1792 (constant S_ .f32 0x3F000000#32))
    (Host.dotGeneral (F := Ideal) dot_S4x1792x1792_S4x1792x1792_S4x1792x1792_2_1_1_2_0_0 none u e))) bitsLt_bf16_f32

/-- The eigenvectors after one Björck step of the right side. -/
def basisR (codes : IVec S4x896x1792 8) (scales : FVec Ideal S4x28x1792 .f32) : FVec Ideal S4x1792x1792 .bf16 :=
  stepR (decodeR codes scales) (gramR (decodeR codes scales))

/-- The left damping factors `(λ + ε) ^ (-1/4)`, as a column. -/
def dampL (lam : FVec Ideal S4x3584 .f32) : FVec Ideal S4x3584x1 .f32 :=
  broadcastInDim S4x3584x1 ![0, 1] bcast_S4x3584_S4x3584x1_0_1 (Host.powf (addf lam (broadcastInDim S4x3584 ![] bcast_S_S4x3584 (constant S_ .f32 0x38D1B717#32))) (broadcastInDim S4x3584 ![] bcast_S_S4x3584 (constant S_ .f32 0xBE800000#32)))

/-- The right damping factors `(λ + ε) ^ (-1/4)`, as a row. -/
def dampR (lam : FVec Ideal S4x1792 .f32) : FVec Ideal S4x1x1792 .f32 :=
  broadcastInDim S4x1x1792 ![0, 2] bcast_S4x1792_S4x1x1792_0_2 (Host.powf (addf lam (broadcastInDim S4x1792 ![] bcast_S_S4x1792 (constant S_ .f32 0x38D1B717#32))) (broadcastInDim S4x1792 ![] bcast_S_S4x1792 (constant S_ .f32 0xBE800000#32)))

/-- First product: `uₗᵀ g`, its rows scaled. -/
def prod1 (u : FVec Ideal S4x3584x3584 .bf16) (g : FVec Ideal S4x3584x1792 .bf16) (d : FVec Ideal S4x3584x1 .f32) : FVec Ideal S4x3584x1792 .bf16 :=
  truncf .bf16 (mulf (Host.dotGeneral (F := Ideal) dot_S4x3584x3584_S4x3584x1792_S4x3584x1792_1_1_2_2_0_0 none u g)
    (broadcastInDim S4x3584x1792 ![0, 1, 2] bcast_S4x3584x1_S4x3584x1792_0_1_2 d)) bitsLt_bf16_f32

/-- Second product: `t uᵣ`, its columns scaled. -/
def prod2 (t : FVec Ideal S4x3584x1792 .bf16) (u : FVec Ideal S4x1792x1792 .bf16) (d : FVec Ideal S4x1x1792 .f32) : FVec Ideal S4x3584x1792 .bf16 :=
  truncf .bf16 (mulf (Host.dotGeneral (F := Ideal) dot_S4x3584x1792_S4x1792x1792_S4x3584x1792_2_1_1_2_0_0 none t u)
    (broadcastInDim S4x3584x1792 ![0, 1, 2] bcast_S4x1x1792_S4x3584x1792_0_1_2 d)) bitsLt_bf16_f32

/-- Third product: `uₗ t`. -/
def prod3 (u : FVec Ideal S4x3584x3584 .bf16) (t : FVec Ideal S4x3584x1792 .bf16) : FVec Ideal S4x3584x1792 .bf16 :=
  truncf .bf16 (Host.dotGeneral (F := Ideal) dot_S4x3584x3584_S4x3584x1792_S4x3584x1792_2_1_1_2_0_0 none u t) bitsLt_bf16_f32

/-- Fourth product: `t uᵣᵀ`. -/
def prod4 (t : FVec Ideal S4x3584x1792 .bf16) (u : FVec Ideal S4x1792x1792 .bf16) : FVec Ideal S4x3584x1792 .f32 :=
  Host.dotGeneral (F := Ideal) dot_S4x3584x1792_S4x1792x1792_S4x3584x1792_2_2_1_1_0_0 none t u

/-- The diagonal (Adagrad) direction `g / (√acc + ε)`. -/
def ada (g : FVec Ideal S4x3584x1792 .bf16) (acc : FVec Ideal S4x3584x1792 .f32) : FVec Ideal S4x3584x1792 .f32 :=
  Host.divf (extf .f32 g bitsLt_bf16_f32) (addf (Host.sqrt acc) (broadcastInDim S4x3584x1792 ![] bcast_S_S4x3584x1792 (constant S_ .f32 0x322BCC77#32)))

/-- The norm of each batch entry. -/
def norm (x : FVec Ideal S4x3584x1792 .f32) : FVec Ideal S4 .f32 :=
  Host.sqrt (Host.reduceAdd (mulf x x) (constant S_ .f32 0x00000000#32) reducesTo_S4x3584x1792_S4_d1_2 h_S_)

/-- The sum of the squares of each column. -/
def sumsq (x : FVec Ideal S4x3584x1792 .f32) : FVec Ideal S4x1x1792 .f32 :=
  fun j => ∑ l : Fin 3584, x (ix3 (j 0) l (j 2)) * x (ix3 (j 0) l (j 2))

/-- Grafting: the direction `p` rescaled to the norm of `a`. -/
def graft (p a : FVec Ideal S4x3584x1792 .f32) : FVec Ideal S4x3584x1792 .f32 :=
  mulf p (broadcastInDim S4x3584x1792 ![0, 1, 2] bcast_S4x1x1_S4x3584x1792_0_1_2 (broadcastInDim S4x1x1 ![0] bcast_S4_S4x1x1_0
    (Host.divf (norm a) (select (cmpf .ogt (norm p) (broadcastInDim S4 ![] bcast_S_S4 (constant S_ .f32 0x00000000#32))) (norm p)
      (broadcastInDim S4 ![] bcast_S_S4 (id (constant S_ .f32 0x3F800000#32)))))))

/-- The preconditioned direction of the arguments. -/
def direction (g : FVec Ideal S4x3584x1792 .bf16) (ulc : IVec S4x1792x3584 8) (uls : FVec Ideal S4x56x3584 .f32) (ll : FVec Ideal S4x3584 .f32)
    (urc : IVec S4x896x1792 8) (urs : FVec Ideal S4x28x1792 .f32) (lr : FVec Ideal S4x1792 .f32) : FVec Ideal S4x3584x1792 .f32 :=
  prod4 (prod3 (basisL ulc uls) (prod2 (prod1 (basisL ulc uls) g (dampL ll)) (basisR urc urs) (dampR lr))) (basisR urc urs)

section
open Cert.ReferenceIdeal.Value
variable (V0 : Valuation τ sig (Elt Ideal))

/-- The reference's decoded matrix of the left side. -/
theorem res_decodeL : res_main_v24 V0 = decodeL (V0 (Proc.devRef .tc main_arg2)) (V0 (Proc.devRef .tc main_arg3)) := rfl
/-- The reference's decoded matrix of the right side. -/
theorem res_decodeR : res_main_v70 V0 = decodeR (V0 (Proc.devRef .tc main_arg5)) (V0 (Proc.devRef .tc main_arg6)) := rfl
/-- The reference's corrected basis of the left side. -/
theorem res_basisL : res_main_v41 V0 = basisL (V0 (Proc.devRef .tc main_arg2)) (V0 (Proc.devRef .tc main_arg3)) := by
  unfold res_main_v41 basisL stepL gramL; rw [res_decodeL]
/-- The reference's corrected basis of the right side. -/
theorem res_basisR : res_main_v87 V0 = basisR (V0 (Proc.devRef .tc main_arg5)) (V0 (Proc.devRef .tc main_arg6)) := by
  unfold res_main_v87 basisR stepR gramR; rw [res_decodeR]
/-- The reference's preconditioned direction, before its rescaling. -/
theorem res_direction : res_main_v104 V0 = direction (V0 (Proc.devRef .tc main_arg0)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7)) := by
  unfold res_main_v104 direction prod4 prod3 prod2 prod1 dampL dampR; rw [res_basisL, res_basisR]
/-- The reference's second result, the Adagrad direction. -/
theorem res_ada : res_main_v109 V0 = ada (V0 (Proc.devRef .tc main_arg0)) (V0 (Proc.devRef .tc main_arg1)) := rfl
/-- The norm that the reference divides by is the preconditioned direction's. -/
theorem res_norm : res_main_v115 V0 = norm (res_main_v104 V0) := rfl
end

end Cert.Spec

end
-- ==== Proof.Value.Words.lean ====
/- Facts on words and scalars that the regions share. -/
module

public import Idealize.ShloMosaic.Lib.Pointwise
public import Idealize.ShloMosaic.Lib.WordCmp

@[expose] public section

namespace Cert.Words

open Idealize.ShloMosaic

/-- A tile's row number counted from the tile's first row is the row number of the array. -/
theorem add_mul_tile (y T s : ℕ) :
    IntOp.addi (BitVec.ofNat 32 y) (Scalar.muli (BitVec.ofNat 32 T) (BitVec.ofNat 32 s)) = BitVec.ofNat 32 (T * s + y) := by
  simp only [IntOp.addi, Scalar.muli, IntOp.muli, ← BitVec.ofNat_mul, ← BitVec.ofNat_add, Nat.add_comm]

/-- Adding the zero word changes nothing. -/
theorem addi_zero (a : BitVec 32) : IntOp.addi a 0#32 = a := by simp [IntOp.addi]

/-- One is subtracted exactly where two words agree: as a choice, and as the difference with the comparison read as a number. -/
theorem select_sub_eye (a b : BitVec 32) (s : EReal) :
    Scalar.select (IntOp.cmpi .eq a b) (s - 1) s = s - FloatOps.uitofp (F := Ideal) .f32 (IntOp.cmpi .eq a b) := by
  by_cases h : a = b
  · simp [Scalar.select, IntOp.cmpi, FloatOps.uitofp, h]
  · have e : (a == b) = false := by simpa using h
    simp [Scalar.select, IntOp.cmpi, FloatOps.uitofp, e]

/-- A nibble 0 … 15 read as a signed number -8 … 7. -/
abbrev nib (d : BitVec 32) : BitVec 32 := Scalar.select (IntOp.cmpi .sge d 8#32) (IntOp.subi d 16#32) d

/-- The nibble of a code that half `T` decodes (0: the low one, 1: the high one), in the kernel's spelling. -/
abbrev half (T : ℕ) (b : BitVec 8) : BitVec 32 :=
  Scalar.select (Scalar.cmpi .eq (BitVec.ofNat 32 T) 0#32) (IntOp.andi (BitVec.setWidth 32 b) 15#32)
    (IntOp.shrsi .vector (BitVec.setWidth 32 b) 4#32)

/-- One element of a decoded matrix: the signed nibble times its block's scale. -/
noncomputable abbrev element (T : ℕ) (b : BitVec 8) (z : EReal) : EReal := FloatOps.sitofp (F := Ideal) .f32 (nib (half T b)) * z

/-- Choosing the half and then reading the nibble is reading both nibbles and then choosing. -/
theorem nib_half (T : ℕ) (P : Prop) [Decidable P] (hT : T < 2) (hP : P ↔ T = 0) (b : BitVec 8) :
    (if h : P then nib (IntOp.andi (BitVec.setWidth 32 b) 15#32) else nib (IntOp.shrsi .host (BitVec.setWidth 32 b) 4#32))
      = nib (half T b) := by
  have hs (d : BitVec 32) : IntOp.shrsi .host d 4#32 = IntOp.shrsi .vector d 4#32 := by simp [IntOp.shrsi]
  obtain rfl | rfl : T = 0 ∨ T = 1 := by omega
  · rw [dif_pos (hP.mpr rfl)]; rfl
  · rw [dif_neg (fun h => by simpa using hP.mp h), hs]; rfl

end Cert.Words
-- ==== Proof.Value.R0.lean ====
/- Region 0 of the kernel writes the decoded matrix (left side). -/
module

public import proofs.«01_k».proof.Proof.Spec
public import proofs.«01_k».proof.Proof.Gen.KernelIdeal.Frame.Region0
public import Idealize.ShloMosaic.Lib.Pointwise
public import proofs.«01_k».proof.Proof.Value.Words
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 0 stages at grid point `t`. -/
theorem idx0 : ∀ t : Fin cfg0.N, win0_0.index t = ![t.val / 28, 0, t.val % 14] ∧ win0_1.index t = ![t.val / 28, t.val / 14 % 2, 0, t.val % 14] ∧ win0_2.index t = ![t.val / 28, t.val / 14 % 2, t.val % 14] ∧ (grid0.coords t 1).val = t.val / 14 % 2 :=
  (by decide +kernel : ∀ t : Fin grid0.N, _)

/-- The scales cut into two halves of block rows, read at an index. -/
theorem split0 (s : FVec Ideal S4x56x3584 .f32) (i : Fin 4) (h : Fin 2) (b : Fin 28) (l : Fin 3584) :
    shapeCast S4x2x28x3584 s shapeCasts_S4x56x3584_S4x2x28x3584 (ix4 i h b l) = s (ix3 i ⟨h.val * 28 + b.val, by omega⟩ l) := by
  pointwise

/-- What the body of region 0 stores, read at an index. -/
theorem pay0 (i : grid0.Coords) (x0 : IVec S1x1792x256 8) (x1 : FVec Ideal S1x1x28x256 .f32) (y0 : Fin 1) (r : Fin 1792) (l : Fin 256) :
    k0_pay1 (F := Ideal) i x0 x1 (ix3 y0 r l) = Words.element (i 1).val (x0 (ix3 0 r l)) (x1 (ix4 0 0 ⟨r.val / 64, by omega⟩ l)) := by
  pointwise [k0_pay1]

/-- The specification, read at an index. -/
theorem ref0 (x : IVec S4x1792x3584 8) (s : FVec Ideal S4x56x3584 .f32) (i : Fin 4) (h : Fin 2) (r : Fin 1792) (l : Fin 3584) :
    Spec.decodeL x s (ix3 i ⟨h.val * 1792 + r.val, by omega⟩ l)
      = Words.element h.val (x (ix3 i r l)) (s (ix3 i ⟨h.val * 28 + r.val / 64, by omega⟩ l)) := by
  pointwise [Spec.decodeL, Spec.nibbleL]
  have e : (ix3 i ⟨(h.val * 1792 + r.val) / 64, by omega⟩ l : S4x56x3584.Idx) = ix3 i ⟨h.val * 28 + r.val / 64, by omega⟩ l := by
    blk_ext
  exact congrArg₂ (fun (d : BitVec 32) (z : EReal) => FloatOps.sitofp (F := Ideal) .bf16 d * z)
    (Words.nib_half _ _ h.isLt (by omega) _) (congrArg s e)

/-- What the body of region 0 stores, read at an index: the specification at that index of the array. -/
theorem point0 (c : Dev nD) (s : FVec Ideal S4x56x3584 .f32) (hs : V c main_v0 = shapeCast S4x2x28x3584 s shapeCasts_S4x56x3584_S4x2x28x3584)
    (t : Fin cfg0.N) (y : S1x1792x256.Idx) :
    k0_pay1 (F := Ideal) (grid0.coords t) (iblk0 V c 0 t) (iblk0 V c 1 t) y
      = Spec.decodeL (V c main_arg2) s (((cfg0.win 2).blk t).view.emb y) := by
  obtain ⟨h0, h1, h2, hx⟩ := idx0 t
  idx_vars y
  have ht : t.val < 112 := t.isLt
  let i : Fin 4 := ⟨t.val / 28, by omega⟩
  let h : Fin 2 := ⟨t.val / 14 % 2, by omega⟩
  let l : Fin 3584 := ⟨t.val % 14 * 256 + y2.val, by omega⟩
  have e : ((cfg0.win 2).blk t).view.emb (ix3 y0 y1 y2 : S1x1792x256.Idx) = (ix3 i ⟨h.val * 1792 + y1.val, by omega⟩ l : S4x3584x3584.Idx) := by
    blk_ext [h2, i, h, l]
  have r0 : iblk0 V c 0 t (ix3 0 y1 y2 : S1x1792x256.Idx) = V c main_arg2 (ix3 i y1 l : S4x1792x3584.Idx) := by
    blk_ext [iblk0, h0, i, l]
  have r1 : iblk0 V c 1 t (ix4 0 0 ⟨y1.val / 64, by omega⟩ y2 : S1x1x28x256.Idx) = V c main_v0 (ix4 i h ⟨y1.val / 64, by omega⟩ l : S4x2x28x3584.Idx) := by
    blk_ext [iblk0, h1, i, h, l]
  have r2 : V c main_v0 (ix4 i h ⟨y1.val / 64, by omega⟩ l : S4x2x28x3584.Idx) = s (ix3 i ⟨h.val * 28 + y1.val / 64, by omega⟩ l) :=
    (congrFun hs _).trans (split0 s i h _ l)
  refine (pay0 _ _ _ y0 y1 y2).trans (Eq.trans ?_ ((ref0 (V c main_arg2) s i h y1 l).symm.trans (congrArg _ e.symm)))
  exact congr (congrArg₂ Words.element hx r0) (r1.trans r2)

/-- The output array after region 0. -/
theorem final0 (c : Dev nD) (s : FVec Ideal S4x56x3584 .f32) (hs : V c main_v0 = shapeCast S4x2x28x3584 s shapeCasts_S4x56x3584_S4x2x28x3584) :
    (dat0 V c).arrAt 2 cfg0.N = Spec.decodeL (V c main_arg2) s := by
  refine (dat0 V c).arrAt_eq_of_covers 2 _ (by decide +kernel) fun t _ y => ?_
  blk_simp
  rw [after0_2]; frame_out
  exact point0 V c s hs t y

end Cert.KernelIdeal.Val

end
-- ==== Proof.Value.R1.lean ====
/- Region 1 of the kernel writes the Gram matrix's distance from the identity (left side). -/
module

public import proofs.«01_k».proof.Proof.Spec
public import proofs.«01_k».proof.Proof.Gen.KernelIdeal.Frame.Region1
public import Idealize.ShloMosaic.Lib.Pointwise
public import proofs.«01_k».proof.Proof.Value.Words
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 1 stages at grid point `t`. -/
theorem idx1 : ∀ t : Fin cfg1.N, win1_0.index t = ![t.val / 49, 0, t.val / 7 % 7] ∧ win1_1.index t = ![t.val / 49, 0, t.val % 7] ∧ win1_2.index t = ![t.val / 49, t.val / 7 % 7, t.val % 7] ∧ (grid1.coords t 1).val = t.val / 7 % 7 ∧ (grid1.coords t 2).val = t.val % 7 :=
  (by decide +kernel : ∀ t : Fin grid1.N, _)

/-- What the body of region 1 stores, read at an index: the specification at that index of the array. -/
theorem point1 (c : Dev nD) (t : Fin cfg1.N) (y : S1x512x512.Idx) :
    k1_pay1 (F := Ideal) (grid1.coords t) (iblk1 V c 0 t) (iblk1 V c 1 t) y
      = Spec.gramL (V c main_v1) (((cfg1.win 2).blk t).view.emb y) := by
  obtain ⟨h0, h1, h2, hx, hy⟩ := idx1 t
  idx_vars y
  pointwise [k1_pay1, Spec.gramL]
  blk_simp [iblk1, h0, h1, h2, hx, hy]
  rw [Words.select_sub_eye, Words.add_mul_tile, Words.add_mul_tile, Words.addi_zero]
  blk_point [h0, h1, h2]

/-- The output array after region 1. -/
theorem final1 (c : Dev nD) : (dat1 V c).arrAt 2 cfg1.N = Spec.gramL (V c main_v1) := by
  refine (dat1 V c).arrAt_eq_of_covers 2 _ (by decide +kernel) fun t _ y => ?_
  blk_simp
  rw [after1_2]; frame_out
  exact point1 V c t y

end Cert.KernelIdeal.Val

end
-- ==== Proof.Value.R2.lean ====
/- Region 2 of the kernel writes one Björck step of the left side. -/
module

public import proofs.«01_k».proof.Proof.Spec
public import proofs.«01_k».proof.Proof.Gen.KernelIdeal.Frame.Region2
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 2 stages at grid point `t`. -/
theorem idx2 : ∀ t : Fin cfg2.N, win2_0.index t = ![t.val / 49, t.val / 7 % 7, 0] ∧ win2_1.index t = ![t.val / 49, 0, t.val % 7] ∧ win2_2.index t = ![t.val / 49, t.val / 7 % 7, t.val % 7] ∧ win2_3.index t = ![t.val / 49, t.val / 7 % 7, t.val % 7] :=
  (by decide +kernel : ∀ t : Fin grid2.N, _)

/-- What the body of region 2 stores, read at an index: the specification at that index of the array. -/
theorem point2 (c : Dev nD) (t : Fin cfg2.N) (y : S1x512x512.Idx) :
    k2_pay1 (F := Ideal) (iblk2 V c 0 t) (iblk2 V c 1 t) (iblk2 V c 2 t) y
      = Spec.stepL (V c main_v1) (V c main_v2) (((cfg2.win 3).blk t).view.emb y) := by
  idx_vars y
  pointwise [k2_pay1, Spec.stepL]
  blk_point [iblk2, idx2 t]

/-- The output array after region 2. -/
theorem final2 (c : Dev nD) : (dat2 V c).arrAt 3 cfg2.N = Spec.stepL (V c main_v1) (V c main_v2) := by
  refine (dat2 V c).arrAt_eq_of_covers 3 _ (by decide +kernel) fun t _ y => ?_
  blk_simp
  rw [after2_3]; frame_out
  exact point2 V c t y

end Cert.KernelIdeal.Val

end
-- ==== Proof.Value.R3.lean ====
/- Region 3 of the kernel writes the decoded matrix (right side). -/
module

public import proofs.«01_k».proof.Proof.Spec
public import proofs.«01_k».proof.Proof.Gen.KernelIdeal.Frame.Region3
public import Idealize.ShloMosaic.Lib.Pointwise
public import proofs.«01_k».proof.Proof.Value.Words
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 3 stages at grid point `t`. -/
theorem idx3 : ∀ t : Fin cfg3.N, win3_0.index t = ![t.val / 14, 0, t.val % 7] ∧ win3_1.index t = ![t.val / 14, t.val / 7 % 2, 0, t.val % 7] ∧ win3_2.index t = ![t.val / 14, t.val / 7 % 2, t.val % 7] ∧ (grid3.coords t 1).val = t.val / 7 % 2 :=
  (by decide +kernel : ∀ t : Fin grid3.N, _)

/-- The scales cut into two halves of block rows, read at an index. -/
theorem split3 (s : FVec Ideal S4x28x1792 .f32) (i : Fin 4) (h : Fin 2) (b : Fin 14) (l : Fin 1792) :
    shapeCast S4x2x14x1792 s shapeCasts_S4x28x1792_S4x2x14x1792 (ix4 i h b l) = s (ix3 i ⟨h.val * 14 + b.val, by omega⟩ l) := by
  pointwise

/-- What the body of region 3 stores, read at an index. -/
theorem pay3 (i : grid3.Coords) (x0 : IVec S1x896x256 8) (x1 : FVec Ideal S1x1x14x256 .f32) (y0 : Fin 1) (r : Fin 896) (l : Fin 256) :
    k3_pay1 (F := Ideal) i x0 x1 (ix3 y0 r l) = Words.element (i 1).val (x0 (ix3 0 r l)) (x1 (ix4 0 0 ⟨r.val / 64, by omega⟩ l)) := by
  pointwise [k3_pay1]

/-- The specification, read at an index. -/
theorem ref3 (x : IVec S4x896x1792 8) (s : FVec Ideal S4x28x1792 .f32) (i : Fin 4) (h : Fin 2) (r : Fin 896) (l : Fin 1792) :
    Spec.decodeR x s (ix3 i ⟨h.val * 896 + r.val, by omega⟩ l)
      = Words.element h.val (x (ix3 i r l)) (s (ix3 i ⟨h.val * 14 + r.val / 64, by omega⟩ l)) := by
  pointwise [Spec.decodeR, Spec.nibbleR]
  have e : (ix3 i ⟨(h.val * 896 + r.val) / 64, by omega⟩ l : S4x28x1792.Idx) = ix3 i ⟨h.val * 14 + r.val / 64, by omega⟩ l := by
    blk_ext
  exact congrArg₂ (fun (d : BitVec 32) (z : EReal) => FloatOps.sitofp (F := Ideal) .bf16 d * z)
    (Words.nib_half _ _ h.isLt (by omega) _) (congrArg s e)

/-- What the body of region 3 stores, read at an index: the specification at that index of the array. -/
theorem point3 (c : Dev nD) (s : FVec Ideal S4x28x1792 .f32) (hs : V c main_v4 = shapeCast S4x2x14x1792 s shapeCasts_S4x28x1792_S4x2x14x1792)
    (t : Fin cfg3.N) (y : S1x896x256.Idx) :
    k3_pay1 (F := Ideal) (grid3.coords t) (iblk3 V c 0 t) (iblk3 V c 1 t) y
      = Spec.decodeR (V c main_arg5) s (((cfg3.win 2).blk t).view.emb y) := by
  obtain ⟨h0, h1, h2, hx⟩ := idx3 t
  idx_vars y
  have ht : t.val < 56 := t.isLt
  let i : Fin 4 := ⟨t.val / 14, by omega⟩
  let h : Fin 2 := ⟨t.val / 7 % 2, by omega⟩
  let l : Fin 1792 := ⟨t.val % 7 * 256 + y2.val, by omega⟩
  have e : ((cfg3.win 2).blk t).view.emb (ix3 y0 y1 y2 : S1x896x256.Idx) = (ix3 i ⟨h.val * 896 + y1.val, by omega⟩ l : S4x1792x1792.Idx) := by
    blk_ext [h2, i, h, l]
  have r0 : iblk3 V c 0 t (ix3 0 y1 y2 : S1x896x256.Idx) = V c main_arg5 (ix3 i y1 l : S4x896x1792.Idx) := by
    blk_ext [iblk3, h0, i, l]
  have r1 : iblk3 V c 1 t (ix4 0 0 ⟨y1.val / 64, by omega⟩ y2 : S1x1x14x256.Idx) = V c main_v4 (ix4 i h ⟨y1.val / 64, by omega⟩ l : S4x2x14x1792.Idx) := by
    blk_ext [iblk3, h1, i, h, l]
  have r2 : V c main_v4 (ix4 i h ⟨y1.val / 64, by omega⟩ l : S4x2x14x1792.Idx) = s (ix3 i ⟨h.val * 14 + y1.val / 64, by omega⟩ l) :=
    (congrFun hs _).trans (split3 s i h _ l)
  refine (pay3 _ _ _ y0 y1 y2).trans (Eq.trans ?_ ((ref3 (V c main_arg5) s i h y1 l).symm.trans (congrArg _ e.symm)))
  exact congr (congrArg₂ Words.element hx r0) (r1.trans r2)

/-- The output array after region 3. -/
theorem final3 (c : Dev nD) (s : FVec Ideal S4x28x1792 .f32) (hs : V c main_v4 = shapeCast S4x2x14x1792 s shapeCasts_S4x28x1792_S4x2x14x1792) :
    (dat3 V c).arrAt 2 cfg3.N = Spec.decodeR (V c main_arg5) s := by
  refine (dat3 V c).arrAt_eq_of_covers 2 _ (by decide +kernel) fun t _ y => ?_
  blk_simp
  rw [after3_2]; frame_out
  exact point3 V c s hs t y

end Cert.KernelIdeal.Val

end
-- ==== Proof.Value.R4.lean ====
/- Region 4 of the kernel writes the Gram matrix's distance from the identity (right side). -/
module

public import proofs.«01_k».proof.Proof.Spec
public import proofs.«01_k».proof.Proof.Gen.KernelIdeal.Frame.Region4
public import Idealize.ShloMosaic.Lib.Pointwise
public import proofs.«01_k».proof.Proof.Value.Words
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 4 stages at grid point `t`. -/
theorem idx4 : ∀ t : Fin cfg4.N, win4_0.index t = ![t.val / 49, 0, t.val / 7 % 7] ∧ win4_1.index t = ![t.val / 49, 0, t.val % 7] ∧ win4_2.index t = ![t.val / 49, t.val / 7 % 7, t.val % 7] ∧ (grid4.coords t 1).val = t.val / 7 % 7 ∧ (grid4.coords t 2).val = t.val % 7 :=
  (by decide +kernel : ∀ t : Fin grid4.N, _)

/-- What the body of region 4 stores, read at an index: the specification at that index of the array. -/
theorem point4 (c : Dev nD) (t : Fin cfg4.N) (y : S1x256x256.Idx) :
    k4_pay1 (F := Ideal) (grid4.coords t) (iblk4 V c 0 t) (iblk4 V c 1 t) y
      = Spec.gramR (V c main_v5) (((cfg4.win 2).blk t).view.emb y) := by
  obtain ⟨h0, h1, h2, hx, hy⟩ := idx4 t
  idx_vars y
  pointwise [k4_pay1, Spec.gramR]
  blk_simp [iblk4, h0, h1, h2, hx, hy]
  rw [Words.select_sub_eye, Words.add_mul_tile, Words.add_mul_tile, Words.addi_zero]
  blk_point [h0, h1, h2]

/-- The output array after region 4. -/
theorem final4 (c : Dev nD) : (dat4 V c).arrAt 2 cfg4.N = Spec.gramR (V c main_v5) := by
  refine (dat4 V c).arrAt_eq_of_covers 2 _ (by decide +kernel) fun t _ y => ?_
  blk_simp
  rw [after4_2]; frame_out
  exact point4 V c t y

end Cert.KernelIdeal.Val

end
-- ==== Proof.Value.R5.lean ====
/- Region 5 of the kernel writes one Björck step of the right side. -/
module

public import proofs.«01_k».proof.Proof.Spec
public import proofs.«01_k».proof.Proof.Gen.KernelIdeal.Frame.Region5
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 5 stages at grid point `t`. -/
theorem idx5 : ∀ t : Fin cfg5.N, win5_0.index t = ![t.val / 49, t.val / 7 % 7, 0] ∧ win5_1.index t = ![t.val / 49, 0, t.val % 7] ∧ win5_2.index t = ![t.val / 49, t.val / 7 % 7, t.val % 7] ∧ win5_3.index t = ![t.val / 49, t.val / 7 % 7, t.val % 7] :=
  (by decide +kernel : ∀ t : Fin grid5.N, _)

/-- What the body of region 5 stores, read at an index: the specification at that index of the array. -/
theorem point5 (c : Dev nD) (t : Fin cfg5.N) (y : S1x256x256.Idx) :
    k5_pay1 (F := Ideal) (iblk5 V c 0 t) (iblk5 V c 1 t) (iblk5 V c 2 t) y
      = Spec.stepR (V c main_v5) (V c main_v6) (((cfg5.win 3).blk t).view.emb y) := by
  idx_vars y
  pointwise [k5_pay1, Spec.stepR]
  blk_point [iblk5, idx5 t]

/-- The output array after region 5. -/
theorem final5 (c : Dev nD) : (dat5 V c).arrAt 3 cfg5.N = Spec.stepR (V c main_v5) (V c main_v6) := by
  refine (dat5 V c).arrAt_eq_of_covers 3 _ (by decide +kernel) fun t _ y => ?_
  blk_simp
  rw [after5_3]; frame_out
  exact point5 V c t y

end Cert.KernelIdeal.Val

end
-- ==== Proof.Value.R6.lean ====
/- Region 6 of the kernel writes the first product. -/
module

public import proofs.«01_k».proof.Proof.Spec
public import proofs.«01_k».proof.Proof.Gen.KernelIdeal.Frame.Region6
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 6 stages at grid point `t`. -/
theorem idx6 : ∀ t : Fin cfg6.N, win6_0.index t = ![t.val / 49, 0, t.val / 7 % 7] ∧ win6_1.index t = ![t.val / 49, 0, t.val % 7] ∧ win6_2.index t = ![t.val / 49, t.val / 7 % 7, 0] ∧ win6_3.index t = ![t.val / 49, t.val / 7 % 7, t.val % 7] :=
  (by decide +kernel : ∀ t : Fin grid6.N, _)

/-- What the body of region 6 stores, read at an index: the specification at that index of the array. -/
theorem point6 (c : Dev nD) (t : Fin cfg6.N) (y : S1x512x256.Idx) :
    k6_pay1 (F := Ideal) (iblk6 V c 0 t) (iblk6 V c 1 t) (iblk6 V c 2 t) y
      = Spec.prod1 (V c main_v3) (V c main_arg0) (V c main_v12) (((cfg6.win 3).blk t).view.emb y) := by
  idx_vars y
  pointwise [k6_pay1, Spec.prod1]
  blk_point [iblk6, idx6 t]

/-- The output array after region 6. -/
theorem final6 (c : Dev nD) : (dat6 V c).arrAt 3 cfg6.N = Spec.prod1 (V c main_v3) (V c main_arg0) (V c main_v12) := by
  refine (dat6 V c).arrAt_eq_of_covers 3 _ (by decide +kernel) fun t _ y => ?_
  blk_simp
  rw [after6_3]; frame_out
  exact point6 V c t y

end Cert.KernelIdeal.Val

end
-- ==== Proof.Value.R7.lean ====
/- Region 7 of the kernel writes the second product. -/
module

public import proofs.«01_k».proof.Proof.Spec
public import proofs.«01_k».proof.Proof.Gen.KernelIdeal.Frame.Region7
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 7 stages at grid point `t`. -/
theorem idx7 : ∀ t : Fin cfg7.N, win7_0.index t = ![t.val / 49, t.val / 7 % 7, 0] ∧ win7_1.index t = ![t.val / 49, 0, t.val % 7] ∧ win7_2.index t = ![t.val / 49, 0, t.val % 7] ∧ win7_3.index t = ![t.val / 49, t.val / 7 % 7, t.val % 7] :=
  (by decide +kernel : ∀ t : Fin grid7.N, _)

/-- What the body of region 7 stores, read at an index: the specification at that index of the array. -/
theorem point7 (c : Dev nD) (t : Fin cfg7.N) (y : S1x512x256.Idx) :
    k7_pay1 (F := Ideal) (iblk7 V c 0 t) (iblk7 V c 1 t) (iblk7 V c 2 t) y
      = Spec.prod2 (V c main_v18) (V c main_v7) (V c main_v17) (((cfg7.win 3).blk t).view.emb y) := by
  idx_vars y
  pointwise [k7_pay1, Spec.prod2]
  blk_point [iblk7, idx7 t]

/-- The output array after region 7. -/
theorem final7 (c : Dev nD) : (dat7 V c).arrAt 3 cfg7.N = Spec.prod2 (V c main_v18) (V c main_v7) (V c main_v17) := by
  refine (dat7 V c).arrAt_eq_of_covers 3 _ (by decide +kernel) fun t _ y => ?_
  blk_simp
  rw [after7_3]; frame_out
  exact point7 V c t y

end Cert.KernelIdeal.Val

end
-- ==== Proof.Value.R8.lean ====
/- Region 8 of the kernel writes the third product. -/
module

public import proofs.«01_k».proof.Proof.Spec
public import proofs.«01_k».proof.Proof.Gen.KernelIdeal.Frame.Region8
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 8 stages at grid point `t`. -/
theorem idx8 : ∀ t : Fin cfg8.N, win8_0.index t = ![t.val / 49, t.val / 7 % 7, 0] ∧ win8_1.index t = ![t.val / 49, 0, t.val % 7] ∧ win8_2.index t = ![t.val / 49, t.val / 7 % 7, t.val % 7] :=
  (by decide +kernel : ∀ t : Fin grid8.N, _)

/-- What the body of region 8 stores, read at an index: the specification at that index of the array. -/
theorem point8 (c : Dev nD) (t : Fin cfg8.N) (y : S1x512x256.Idx) :
    k8_pay1 (F := Ideal) (iblk8 V c 0 t) (iblk8 V c 1 t) y
      = Spec.prod3 (V c main_v3) (V c main_v19) (((cfg8.win 2).blk t).view.emb y) := by
  idx_vars y
  pointwise [k8_pay1, Spec.prod3]
  blk_point [iblk8, idx8 t]

/-- The output array after region 8. -/
theorem final8 (c : Dev nD) : (dat8 V c).arrAt 2 cfg8.N = Spec.prod3 (V c main_v3) (V c main_v19) := by
  refine (dat8 V c).arrAt_eq_of_covers 2 _ (by decide +kernel) fun t _ y => ?_
  blk_simp
  rw [after8_2]; frame_out
  exact point8 V c t y

end Cert.KernelIdeal.Val

end
-- ==== Proof.Value.R9.lean ====
/- Region 9 of the kernel writes the fourth product, the preconditioned direction. -/
module

public import proofs.«01_k».proof.Proof.Spec
public import proofs.«01_k».proof.Proof.Gen.KernelIdeal.Frame.Region9
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 9 stages at grid point `t`. -/
theorem idx9 : ∀ t : Fin cfg9.N, win9_0.index t = ![t.val / 49, t.val / 7 % 7, 0] ∧ win9_1.index t = ![t.val / 49, t.val % 7, 0] ∧ win9_2.index t = ![t.val / 49, t.val / 7 % 7, t.val % 7] :=
  (by decide +kernel : ∀ t : Fin grid9.N, _)

/-- What the body of region 9 stores, read at an index: the specification at that index of the array. -/
theorem point9 (c : Dev nD) (t : Fin cfg9.N) (y : S1x512x256.Idx) :
    k9_pay1 (F := Ideal) (iblk9 V c 0 t) (iblk9 V c 1 t) y
      = Spec.prod4 (V c main_v20) (V c main_v7) (((cfg9.win 2).blk t).view.emb y) := by
  idx_vars y
  pointwise [k9_pay1, Spec.prod4]
  blk_point [iblk9, idx9 t]

/-- The output array after region 9. -/
theorem final9 (c : Dev nD) : (dat9 V c).arrAt 2 cfg9.N = Spec.prod4 (V c main_v20) (V c main_v7) := by
  refine (dat9 V c).arrAt_eq_of_covers 2 _ (by decide +kernel) fun t _ y => ?_
  blk_simp
  rw [after9_2]; frame_out
  exact point9 V c t y

end Cert.KernelIdeal.Val

end
-- ==== Proof.Value.R10.lean ====
/- Region 10 of the kernel writes the Adagrad direction and the column sums of its squares. -/
module

public import proofs.«01_k».proof.Proof.Spec
public import proofs.«01_k».proof.Proof.Gen.KernelIdeal.Frame.Region10
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 10 stages at grid point `t`. -/
theorem idx10 : ∀ t : Fin cfg10.N, win10_0.index t = ![t.val / 7, t.val % 7, 0] ∧ win10_1.index t = ![t.val / 7, t.val % 7, 0] ∧ win10_2.index t = ![t.val / 7, t.val % 7, 0] ∧ win10_3.index t = ![t.val / 7, 0, 0] :=
  (by decide +kernel : ∀ t : Fin grid10.N, _)

/-- The Adagrad direction's body, at one element. -/
theorem point10 (c : Dev nD) (t : Fin cfg10.N) (y : S1x512x1792.Idx) :
    k10_pay2 (F := Ideal) (iblk10 V c 0 t) (iblk10 V c 1 t) y
      = Spec.ada (V c main_arg0) (V c main_arg1) (((cfg10.win 2).blk t).view.emb y) := by
  idx_vars y
  pointwise [k10_pay2, k10_pay1, Spec.ada]
  blk_point [iblk10, idx10 t]

/-- The output array of window 2 after region 10: the Adagrad direction. -/
theorem final10_2 (c : Dev nD) : (dat10 V c).arrAt 2 cfg10.N = Spec.ada (V c main_arg0) (V c main_arg1) := by
  refine (dat10 V c).arrAt_eq_of_covers 2 _ (by decide +kernel) fun t _ y => ?_
  blk_simp
  rw [after10_2]
  by_cases h : t.val % 7 = 0
  · rw [outsAt10_A V c t h]; frame_out
    exact point10 V c t y
  · rw [outsAt10_B V c t h]; frame_out
    exact point10 V c t y

/-- The buffer of column sums starts at zero. -/
theorem zero10 (j : S1x1x1792.Idx) : k10_pay3 (F := Ideal) j = 0 := by pointwise [k10_pay3]

/-- One element of the Adagrad direction, from one element of each argument. -/
def adaAt (g a : EReal) : EReal := Ideal.div g (Ideal.sqrt a + Ideal.ofBits .f32 0x322BCC77#32)

/-- The body adds its block's column sums. -/
theorem add10 (x0 : FVec Ideal S1x512x1792 .bf16) (x1 : FVec Ideal S1x512x1792 .f32) (acc : FVec Ideal S1x1x1792 .f32) (j : S1x1x1792.Idx) :
    k10_pay4 (F := Ideal) x0 x1 acc j
      = acc j + ∑ k : Fin 512, adaAt (x0 (ix3 0 k (j 2))) (x1 (ix3 0 k (j 2))) * adaAt (x0 (ix3 0 k (j 2))) (x1 (ix3 0 k (j 2))) := by
  idx_vars j
  pointwise [k10_pay4, k10_pay1, adaAt]
  rw [Subsingleton.elim j0 0, Subsingleton.elim j1 0]

/-- The specification's column sums, from the arguments' elements. -/
theorem sumsq_ada (g : FVec Ideal S4x3584x1792 .bf16) (a : FVec Ideal S4x3584x1792 .f32) (j : S4x1x1792.Idx) :
    Spec.sumsq (Spec.ada g a) j
      = ∑ l : Fin 3584, adaAt (g (ix3 (j 0) l (j 2))) (a (ix3 (j 0) l (j 2))) * adaAt (g (ix3 (j 0) l (j 2))) (a (ix3 (j 0) l (j 2))) := by
  unfold Spec.sumsq
  pointwise [Spec.ada, adaAt]

/-- The output array of window 3 after region 10: the column sums of the Adagrad direction's squares. -/
theorem final10_3 (c : Dev nD) : (dat10 V c).arrAt 3 cfg10.N = Spec.sumsq (Spec.ada (V c main_arg0) (V c main_arg1)) := by
  refine (dat10 V c).arrAt_eq_of_covers 3 _ (by decide +kernel) fun t hf y => ?_
  blk_simp
  rw [after10_3, Pipeline.eq_sum_fin_of_reset_step_apply_of_flush (fun n h => (outsAt10 V c n h).2) 7 (fun _ => 0) _
    (fun t h j => by rw [outsAt10_A V c t h]; frame_out; rw [add10, zero10])
    (fun t h j => by rw [outsAt10_B V c t h]; frame_out; rw [add10])
    t ((flush10_3 t).mp hf) _, zero_add, sumsq_ada]
  refine Fin.sum_mul_add_congr fun s k hl => ?_
  blk_point [adaAt, iblk10, idx10 t, idx10 ⟨_, Pipeline.run_point_lt_of_flush t ((flush10_3 t).mp hf) s⟩]

end Cert.KernelIdeal.Val

end
-- ==== Proof.Value.R11.lean ====
/- Region 11 of the kernel writes the column sums of the direction's squares. -/
module

public import proofs.«01_k».proof.Proof.Spec
public import proofs.«01_k».proof.Proof.Gen.KernelIdeal.Frame.Region11
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 11 stages at grid point `t`. -/
theorem idx11 : ∀ t : Fin cfg11.N, win11_0.index t = ![t.val / 7, t.val % 7, 0] ∧ win11_1.index t = ![t.val / 7, 0, 0] :=
  (by decide +kernel : ∀ t : Fin grid11.N, _)

/-- The buffer of column sums starts at zero. -/
theorem zero11 (j : S1x1x1792.Idx) : k11_pay1 (F := Ideal) j = 0 := by pointwise [k11_pay1]

/-- The body adds its block's column sums. -/
theorem add11 (x0 x1 : FVec Ideal S1x512x1792 .f32) (acc : FVec Ideal S1x1x1792 .f32) (j : S1x1x1792.Idx) :
    k11_pay2 (F := Ideal) acc x0 x1 j = acc j + ∑ k : Fin 512, x0 (ix3 0 k (j 2)) * x1 (ix3 0 k (j 2)) := by
  idx_vars j
  pointwise [k11_pay2]
  rw [Subsingleton.elim j0 0, Subsingleton.elim j1 0]

/-- The output array after region 11: the column sums of the direction's squares. -/
theorem final11 (c : Dev nD) : (dat11 V c).arrAt 1 cfg11.N = Spec.sumsq (V c main_v21) := by
  refine (dat11 V c).arrAt_eq_of_covers 1 _ (by decide +kernel) fun t hf y => ?_
  blk_simp
  rw [after11_1, Pipeline.eq_sum_fin_of_reset_step_apply_of_flush (fun n h => outsAt11 V c n h) 7 (fun _ => 0) _
    (fun t h j => by rw [outsAt11_A V c t h]; frame_out; rw [add11, zero11])
    (fun t h j => by rw [outsAt11_B V c t h]; frame_out; rw [add11])
    t ((flush11_1 t).mp hf) _, zero_add]
  unfold Spec.sumsq
  refine Fin.sum_mul_add_congr fun s k hl => ?_
  blk_point [iblk11, idx11 t, idx11 ⟨_, Pipeline.run_point_lt_of_flush t ((flush11_1 t).mp hf) s⟩]

end Cert.KernelIdeal.Val

end
-- ==== Proof.Value.R12.lean ====
/- Region 12 of the kernel writes the grafted update. -/
module

public import proofs.«01_k».proof.Proof.Spec
public import proofs.«01_k».proof.Proof.Gen.KernelIdeal.Frame.Region12
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (V : (c : Dev nD) → (b : Ref sig .tc) → Buf (Elt Ideal) ((c : Thread nD τ).loc b))

/-- The block that each window of region 12 stages at grid point `t`. -/
theorem idx12 : ∀ t : Fin cfg12.N, win12_0.index t = ![t.val / 7, t.val % 7, 0] ∧ win12_1.index t = ![t.val / 7, 0, 0] ∧ win12_2.index t = ![t.val / 7, 0, 0] ∧ win12_3.index t = ![t.val / 7, t.val % 7, 0] :=
  (by decide +kernel : ∀ t : Fin grid12.N, _)

/-- Summing the column sums is summing the rows' sums. -/
theorem sum_columns (f : FVec Ideal S4x3584x1792 .f32) (i : Fin 4) :
    (∑ _x : Fin 1, ∑ k : Fin 1792, ∑ l : Fin 3584, f (ix3 i l k) * f (ix3 i l k)) = ∑ l : Fin 3584, ∑ k : Fin 1792, f (ix3 i l k) * f (ix3 i l k) := by
  rw [Fin.sum_univ_one]; exact Finset.sum_comm

set_option maxHeartbeats 2000000 in
/-- What the body of region 12 stores, read at an index: the specification at that index of the array. -/
theorem point12 (c : Dev nD) (a : FVec Ideal S4x3584x1792 .f32) (ha : V c main_v22_1 = Spec.sumsq a) (hp : V c main_v23 = Spec.sumsq (V c main_v21))
    (t : Fin cfg12.N) (y : S1x512x1792.Idx) :
    k12_pay1 (F := Ideal) (iblk12 V c 1 t) (iblk12 V c 2 t) (iblk12 V c 0 t) y
      = Spec.graft (V c main_v21) a (((cfg12.win 3).blk t).view.emb y) := by
  obtain ⟨h0, h1, h2, h3⟩ := idx12 t
  idx_vars y
  pointwise [k12_pay1, Spec.graft, Spec.norm, id_eq]
  blk_simp [iblk12, h0, h1, h2, h3, ha, hp, Spec.sumsq]
  have ht : t.val < 28 := t.isLt
  let i : Fin 4 := ⟨t.val / 7, by omega⟩
  have ra : ∀ (f : FVec Ideal S4x3584x1792 .f32) (x : Fin 1) (k : Fin 1792) (l : Fin 3584),
      f (ix3 ((win12_1.blk t).view.emb (ix3 0 x k) 0) l ((win12_1.blk t).view.emb (ix3 0 x k) 2)) = f (ix3 i l k) :=
    fun f x k l => by blk_ext [h1, i]
  have rp : ∀ (f : FVec Ideal S4x3584x1792 .f32) (x : Fin 1) (k : Fin 1792) (l : Fin 3584),
      f (ix3 ((win12_2.blk t).view.emb (ix3 0 x k) 0) l ((win12_2.blk t).view.emb (ix3 0 x k) 2)) = f (ix3 i l k) :=
    fun f x k l => by blk_ext [h2, i]
  have ro : ∀ (f : FVec Ideal S4x3584x1792 .f32) (l : Fin 3584) (k : Fin 1792),
      f (ix3 ((win12_3.blk t).view.emb (ix3 y0 y1 y2) 0) l k) = f (ix3 i l k) :=
    fun f l k => by blk_ext [h3, i]
  have rr : V c main_v21 ((win12_0.blk t).view.emb (ix3 0 y1 y2)) = V c main_v21 ((win12_3.blk t).view.emb (ix3 y0 y1 y2)) := by
    blk_ext [h0, h3]
  simp only [ra, rp, ro, sum_columns]
  rw [rr]
  rfl

/-- The output array after region 12: the grafted update. -/
theorem final12 (c : Dev nD) (a : FVec Ideal S4x3584x1792 .f32) (ha : V c main_v22_1 = Spec.sumsq a) (hp : V c main_v23 = Spec.sumsq (V c main_v21)) :
    (dat12 V c).arrAt 3 cfg12.N = Spec.graft (V c main_v21) a := by
  refine (dat12 V c).arrAt_eq_of_covers 3 _ (by decide +kernel) fun t _ y => ?_
  blk_simp
  rw [after12_3]; frame_out
  exact point12 V c a ha hp t y

end Cert.KernelIdeal.Val

end
-- ==== Proof.Value.Run.lean ====
/- The kernel's run, at the contents that its last boundary names. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program terminates without a fault, with every array of the device at the contents of the last
    boundary (`Gen.W16`) and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W16 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨h, funext fun g => hz g (.inr (no_unscoped g.2))⟩)

end Cert.KernelIdeal.Val

end
-- ==== Proof.Value.Chain.lean ====
/- The kernel's two results as the reference's mathematics of the argument arrays: the regions' output arrays, chained through
   the contents at the segment boundaries. -/
module

public import proofs.«01_k».proof.Proof.Value.R0
public import proofs.«01_k».proof.Proof.Value.R1
public import proofs.«01_k».proof.Proof.Value.R2
public import proofs.«01_k».proof.Proof.Value.R3
public import proofs.«01_k».proof.Proof.Value.R4
public import proofs.«01_k».proof.Proof.Value.R5
public import proofs.«01_k».proof.Proof.Value.R6
public import proofs.«01_k».proof.Proof.Value.R7
public import proofs.«01_k».proof.Proof.Value.R8
public import proofs.«01_k».proof.Proof.Value.R9
public import proofs.«01_k».proof.Proof.Value.R10
public import proofs.«01_k».proof.Proof.Value.R11
public import proofs.«01_k».proof.Proof.Value.R12
public import proofs.«01_k».proof.Proof.Value.Run

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (ρ : Dev nD → PrngReg) (c : Dev nD)

/-! ## Argument arrays, as launched at the boundaries where a region reads them -/

/-- What `main_arg2` holds at point 1 of the program. -/
theorem V1_arg2 : V1 m ρ c main_arg2 = m ((c : Thread nD τ).loc main_arg2) := W1_args m ρ c main_arg2 (by decide)
/-- What `main_arg5` holds at point 5 of the program. -/
theorem V5_arg5 : V5 m ρ c main_arg5 = m ((c : Thread nD τ).loc main_arg5) := W5_args m ρ c main_arg5 (by decide)
/-- What `main_arg0` holds at point 9 of the program. -/
theorem V9_arg0 : V9 m ρ c main_arg0 = m ((c : Thread nD τ).loc main_arg0) := W9_args m ρ c main_arg0 (by decide)
/-- What `main_arg0` holds at point 13 of the program. -/
theorem V13_arg0 : V13 m ρ c main_arg0 = m ((c : Thread nD τ).loc main_arg0) := W13_args m ρ c main_arg0 (by decide)
/-- What `main_arg1` holds at point 13 of the program. -/
theorem V13_arg1 : V13 m ρ c main_arg1 = m ((c : Thread nD τ).loc main_arg1) := W13_args m ρ c main_arg1 (by decide)

/-! ## What the host operations between the regions write -/

/-- What `main_v0` holds at point 1 of the program. -/
theorem V1_v0 : V1 m ρ c main_v0 = shapeCast S4x2x28x3584 (m ((c : Thread nD τ).loc main_arg3)) shapeCasts_S4x56x3584_S4x2x28x3584 := by
  show StableHlo.after hostOps0 (W0 m ρ c) (Proc.devRef .tc main_v0) = _
  after_results_simp
  rfl

/-- What `main_v4` holds at point 5 of the program. -/
theorem V5_v4 : V5 m ρ c main_v4 = shapeCast S4x2x14x1792 (m ((c : Thread nD τ).loc main_arg6)) shapeCasts_S4x28x1792_S4x2x14x1792 := by
  show StableHlo.after hostOps3 (W4 m ρ c) (Proc.devRef .tc main_v4) = _
  after_results_simp
  rw [W4_args m ρ c main_arg6 (by decide)]
  rfl

/-- What `main_v12` holds at point 9 of the program. -/
theorem V9_v12 : V9 m ρ c main_v12 = Spec.dampL (m ((c : Thread nD τ).loc main_arg4)) := by
  show StableHlo.after hostOps6 (W8 m ρ c) (Proc.devRef .tc main_v12) = _
  after_results_simp
  rw [W8_args m ρ c main_arg4 (by decide)]
  rfl

/-- What `main_v17` holds at point 9 of the program. -/
theorem V9_v17 : V9 m ρ c main_v17 = Spec.dampR (m ((c : Thread nD τ).loc main_arg7)) := by
  show StableHlo.after hostOps6 (W8 m ρ c) (Proc.devRef .tc main_v17) = _
  after_results_simp
  rw [W8_args m ρ c main_arg7 (by decide)]
  rfl

/-! ## The regions' output arrays -/

/-- What `main_v1` holds at point 2 of the program. -/
theorem V2_v1 : V2 m ρ c main_v1 = Spec.decodeL (m ((c : Thread nD τ).loc main_arg2)) (m ((c : Thread nD τ).loc main_arg3)) :=
  (W2_arr m ρ c 2).trans (by rw [final0 _ c (m ((c : Thread nD τ).loc main_arg3)) (V1_v0 m ρ c), V1_arg2])

/-- What `main_v2` holds at point 3 of the program. -/
theorem V3_v2 : V3 m ρ c main_v2 = Spec.gramL (Spec.decodeL (m ((c : Thread nD τ).loc main_arg2)) (m ((c : Thread nD τ).loc main_arg3))) :=
  (W3_arr m ρ c 2).trans (by rw [final1, V2_v1])

/-- No step from point 2 to point 3 of the program writes `main_v1`. -/
theorem keep_v1_3 : V3 m ρ c main_v1 = V2 m ρ c main_v1 := (W3_of m ρ c main_v1 (by decide +kernel))

/-- What `main_v3` holds at point 4 of the program. -/
theorem V4_v3 : V4 m ρ c main_v3 = Spec.basisL (m ((c : Thread nD τ).loc main_arg2)) (m ((c : Thread nD τ).loc main_arg3)) :=
  (W4_arr m ρ c 3).trans (by rw [final2, keep_v1_3, V2_v1, V3_v2, Spec.basisL])

/-- What `main_v5` holds at point 6 of the program. -/
theorem V6_v5 : V6 m ρ c main_v5 = Spec.decodeR (m ((c : Thread nD τ).loc main_arg5)) (m ((c : Thread nD τ).loc main_arg6)) :=
  (W6_arr m ρ c 2).trans (by rw [final3 _ c (m ((c : Thread nD τ).loc main_arg6)) (V5_v4 m ρ c), V5_arg5])

/-- What `main_v6` holds at point 7 of the program. -/
theorem V7_v6 : V7 m ρ c main_v6 = Spec.gramR (Spec.decodeR (m ((c : Thread nD τ).loc main_arg5)) (m ((c : Thread nD τ).loc main_arg6))) :=
  (W7_arr m ρ c 2).trans (by rw [final4, V6_v5])

/-- No step from point 6 to point 7 of the program writes `main_v5`. -/
theorem keep_v5_7 : V7 m ρ c main_v5 = V6 m ρ c main_v5 := (W7_of m ρ c main_v5 (by decide +kernel))

/-- What `main_v7` holds at point 8 of the program. -/
theorem V8_v7 : V8 m ρ c main_v7 = Spec.basisR (m ((c : Thread nD τ).loc main_arg5)) (m ((c : Thread nD τ).loc main_arg6)) :=
  (W8_arr m ρ c 3).trans (by rw [final5, keep_v5_7, V6_v5, V7_v6, Spec.basisR])

/-- No step from point 4 to point 9 of the program writes `main_v3`. -/
theorem keep_v3_9 : V9 m ρ c main_v3 = V4 m ρ c main_v3 := (((((W9_of m ρ c main_v3 (by decide +kernel)).trans (W8_of m ρ c main_v3 (by decide +kernel))).trans (W7_of m ρ c main_v3 (by decide +kernel))).trans (W6_of m ρ c main_v3 (by decide +kernel))).trans (W5_of m ρ c main_v3 (by decide +kernel)))

/-- What `main_v18` holds at point 10 of the program. -/
theorem V10_v18 : V10 m ρ c main_v18 = Spec.prod1 (Spec.basisL (m ((c : Thread nD τ).loc main_arg2)) (m ((c : Thread nD τ).loc main_arg3))) (m ((c : Thread nD τ).loc main_arg0)) (Spec.dampL (m ((c : Thread nD τ).loc main_arg4))) :=
  (W10_arr m ρ c 3).trans (by rw [final6, keep_v3_9, V4_v3, V9_arg0, V9_v12])

/-- No step from point 8 to point 10 of the program writes `main_v7`. -/
theorem keep_v7_10 : V10 m ρ c main_v7 = V8 m ρ c main_v7 := ((W10_of m ρ c main_v7 (by decide +kernel)).trans (W9_of m ρ c main_v7 (by decide +kernel)))

/-- No step from point 9 to point 10 of the program writes `main_v17`. -/
theorem keep_v17_10 : V10 m ρ c main_v17 = V9 m ρ c main_v17 := (W10_of m ρ c main_v17 (by decide +kernel))

/-- What `main_v19` holds at point 11 of the program. -/
theorem V11_v19 : V11 m ρ c main_v19 = Spec.prod2 (Spec.prod1 (Spec.basisL (m ((c : Thread nD τ).loc main_arg2)) (m ((c : Thread nD τ).loc main_arg3))) (m ((c : Thread nD τ).loc main_arg0)) (Spec.dampL (m ((c : Thread nD τ).loc main_arg4)))) (Spec.basisR (m ((c : Thread nD τ).loc main_arg5)) (m ((c : Thread nD τ).loc main_arg6))) (Spec.dampR (m ((c : Thread nD τ).loc main_arg7))) :=
  (W11_arr m ρ c 3).trans (by rw [final7, V10_v18, keep_v7_10, V8_v7, keep_v17_10, V9_v17])

/-- No step from point 9 to point 11 of the program writes `main_v3`. -/
theorem keep_v3_11 : V11 m ρ c main_v3 = V9 m ρ c main_v3 := ((W11_of m ρ c main_v3 (by decide +kernel)).trans (W10_of m ρ c main_v3 (by decide +kernel)))

/-- What `main_v20` holds at point 12 of the program. -/
theorem V12_v20 : V12 m ρ c main_v20 = Spec.prod3 (Spec.basisL (m ((c : Thread nD τ).loc main_arg2)) (m ((c : Thread nD τ).loc main_arg3))) (Spec.prod2 (Spec.prod1 (Spec.basisL (m ((c : Thread nD τ).loc main_arg2)) (m ((c : Thread nD τ).loc main_arg3))) (m ((c : Thread nD τ).loc main_arg0)) (Spec.dampL (m ((c : Thread nD τ).loc main_arg4)))) (Spec.basisR (m ((c : Thread nD τ).loc main_arg5)) (m ((c : Thread nD τ).loc main_arg6))) (Spec.dampR (m ((c : Thread nD τ).loc main_arg7)))) :=
  (W12_arr m ρ c 2).trans (by rw [final8, keep_v3_11, keep_v3_9, V4_v3, V11_v19])

/-- No step from point 10 to point 12 of the program writes `main_v7`. -/
theorem keep_v7_12 : V12 m ρ c main_v7 = V10 m ρ c main_v7 := ((W12_of m ρ c main_v7 (by decide +kernel)).trans (W11_of m ρ c main_v7 (by decide +kernel)))

/-- What `main_v21` holds at point 13 of the program. -/
theorem V13_v21 : V13 m ρ c main_v21 = Spec.direction (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W13_arr m ρ c 2).trans (by rw [final9, V12_v20, keep_v7_12, keep_v7_10, V8_v7, Spec.direction])

/-- What `main_v22_0` holds at point 14 of the program. -/
theorem V14_v22_0 : V14 m ρ c main_v22_0 = Spec.ada (m ((c : Thread nD τ).loc main_arg0)) (m ((c : Thread nD τ).loc main_arg1)) :=
  (W14_arr m ρ c 2).trans (by rw [final10_2, V13_arg0, V13_arg1])

/-- What `main_v22_1` holds at point 14 of the program. -/
theorem V14_v22_1 : V14 m ρ c main_v22_1 = Spec.sumsq (Spec.ada (m ((c : Thread nD τ).loc main_arg0)) (m ((c : Thread nD τ).loc main_arg1))) :=
  (W14_arr m ρ c 3).trans (by rw [final10_3, V13_arg0, V13_arg1])

/-- No step from point 13 to point 14 of the program writes `main_v21`. -/
theorem keep_v21_14 : V14 m ρ c main_v21 = V13 m ρ c main_v21 := (W14_of m ρ c main_v21 (by decide +kernel))

/-- What `main_v23` holds at point 15 of the program. -/
theorem V15_v23 : V15 m ρ c main_v23 = Spec.sumsq (Spec.direction (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W15_arr m ρ c 1).trans (by rw [final11, keep_v21_14, V13_v21])

/-- No step from point 14 to point 15 of the program writes `main_v21`. -/
theorem keep_v21_15 : V15 m ρ c main_v21 = V14 m ρ c main_v21 := (W15_of m ρ c main_v21 (by decide +kernel))

/-- No step from point 14 to point 15 of the program writes `main_v22_1`. -/
theorem keep_v22_1_15 : V15 m ρ c main_v22_1 = V14 m ρ c main_v22_1 := (W15_of m ρ c main_v22_1 (by decide +kernel))

/-- What `main_v24` holds at point 16 of the program. -/
theorem V16_v24 : V16 m ρ c main_v24 = Spec.graft (Spec.direction (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Spec.ada (m ((c : Thread nD τ).loc main_arg0)) (m ((c : Thread nD τ).loc main_arg1))) := by
  have hp : V15 m ρ c main_v21 = Spec.direction (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by rw [keep_v21_15, keep_v21_14, V13_v21]
  refine (W16_arr m ρ c 3).trans ?_
  rw [final12 _ c (Spec.ada (m ((c : Thread nD τ).loc main_arg0)) (m ((c : Thread nD τ).loc main_arg1))) ((keep_v22_1_15 m ρ c).trans (V14_v22_1 m ρ c)) ((V15_v23 m ρ c).trans (congrArg Spec.sumsq hp.symm)), hp]

/-- No step from point 14 to point 16 of the program writes `main_v22_0`. -/
theorem keep_v22_0_16 : V16 m ρ c main_v22_0 = V14 m ρ c main_v22_0 := ((W16_of m ρ c main_v22_0 (by decide +kernel)).trans (W15_of m ρ c main_v22_0 (by decide +kernel)))

/-- Every execution of the kernel terminates without a fault, with its two results the reference's mathematics of the argument
    arrays and the argument arrays unchanged. -/
theorem run_values : θ_run defs (onTc (τ := τ) (main (F := Ideal))) ⟨m, fun _ => 0, ρ⟩ (fun r => ∀ c : Dev nD,
      r.2.mem ((c.tc : Thread nD τ).loc main_v24) = Spec.graft (Spec.direction (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Spec.ada (m ((c : Thread nD τ).loc main_arg0)) (m ((c : Thread nD τ).loc main_arg1)))
      ∧ r.2.mem ((c.tc : Thread nD τ).loc main_v22_0) = Spec.ada (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h.1 c _ (mem_uc main_v24 (by decide))).trans (V16_v24 m ρ c),
     (h.1 c _ (mem_uc main_v22_0 (by decide))).trans ((keep_v22_0_16 m ρ c).trans (V14_v22_0 m ρ c)),
     (h.1 c _ (mem_uc main_arg0 (by decide))).trans (W16_main_arg0 m ρ c),
     (h.1 c _ (mem_uc main_arg1 (by decide))).trans (W16_main_arg1 m ρ c),
     (h.1 c _ (mem_uc main_arg2 (by decide))).trans (W16_main_arg2 m ρ c),
     (h.1 c _ (mem_uc main_arg3 (by decide))).trans (W16_main_arg3 m ρ c),
     (h.1 c _ (mem_uc main_arg4 (by decide))).trans (W16_main_arg4 m ρ c),
     (h.1 c _ (mem_uc main_arg5 (by decide))).trans (W16_main_arg5 m ρ c),
     (h.1 c _ (mem_uc main_arg6 (by decide))).trans (W16_main_arg6 m ρ c),
     (h.1 c _ (mem_uc main_arg7 (by decide))).trans (W16_main_arg7 m ρ c)⟩) (run m ρ)

end Cert.KernelIdeal.Val

end
-- ==== Proof.Value.Reference.lean ====
/- The reference's run, its two results in the words of `Cert.Spec`. -/
module

public import proofs.«01_k».proof.Proof.Spec
public import proofs.«01_k».proof.Proof.Gen.ReferenceIdeal.Run
public import Idealize.ShloMosaic.Lib.Quiescent

@[expose] public section

noncomputable section

namespace Cert.ReferenceIdeal.Value

open Cert Cert.ReferenceIdeal Cert.ReferenceIdeal.Gen Idealize.ShloMosaic Idealize.ShloMosaic.TcCoe Idealize.SL.Sem Idealize.ShloMosaic.StableHlo

/-- The reference's first result is the direction grafted to the norm of the diagonal step. -/
theorem graft_eq (V0 : Valuation τ sig (Elt Ideal)) :
    mulf (res_main_v104 V0) (broadcastInDim S4x3584x1792 ![0, 1, 2] bcast_S4x1x1_S4x3584x1792_0_1_2 (broadcastInDim S4x1x1 ![0] bcast_S4_S4x1x1_0
      (Host.divf (Host.sqrt (Host.reduceAdd (mulf (res_main_v109 V0) (res_main_v109 V0)) (constant S_ .f32 0x00000000#32) reducesTo_S4x3584x1792_S4_d1_2 h_S_))
        (select (cmpf .ogt (res_main_v115 V0) (broadcastInDim S4 ![] bcast_S_S4 (constant S_ .f32 0x00000000#32))) (res_main_v115 V0)
          (broadcastInDim S4 ![] bcast_S_S4 (id (constant S_ .f32 0x3F800000#32)))))))
      = Spec.graft (res_main_v104 V0) (res_main_v109 V0) := by
  rw [Spec.res_norm, Spec.graft, Spec.norm, Spec.norm]

/-- Every execution of the reference terminates without a fault, with its two results the mathematics of the argument arrays
    and the argument arrays unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v122) = Spec.graft (Spec.direction (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (Spec.ada (m ((c.tc : Thread nD τ).loc main_arg0)) (m ((c.tc : Thread nD τ).loc main_arg1)))
      ∧ r.2.mem ((c.tc : Thread nD τ).loc main_v109) = Spec.ada (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c).1.trans ((graft_eq (launchContents m c)).trans
        (congrArg₂ Spec.graft (Spec.res_direction (launchContents m c)) (Spec.res_ada (launchContents m c)))),
     (h c).2.1.trans (Spec.res_ada (launchContents m c)), (h c).2.2⟩) (run m ρ)

/-- Every execution of the reference terminates without a fault, the argument arrays unchanged and every semaphore counter
    at zero: the reference declares no semaphore. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2.2, sem_eq_zero_of_no_sems (by decide) r.2⟩) (run m ρ)

end Cert.ReferenceIdeal.Value

end
-- ==== Proof.lean ====
/- The certificate: the frames of the three programs, and the kernel's two results equal to the reference's at the reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value.Chain
public import proofs.«01_k».proof.Proof.Value.Reference
public import Idealize.ShloMosaic.Adequacy
public import Idealize.ShloMosaic.Init

@[expose] public section

noncomputable section

namespace Cert.Proof

open Idealize.ShloMosaic Idealize.SL.Sem

/-- From memories agreeing on the arguments, the kernel and the reference end with equal results and unchanged arguments:
    each of the two programs ends with the same mathematics of its argument arrays. -/
theorem algebraic : Cert.algebraic_KernelIdeal_ReferenceIdeal (hKernelIdeal := Cert.KernelIdeal.Gen.facts)
    (hReferenceIdeal := Cert.ReferenceIdeal.Gen.facts) := fun m g m' g' _ hag =>
  ⟨fun c => Cert.Spec.graft (Cert.Spec.direction (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.Spec.ada (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
   fun c => Cert.Spec.ada (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
   Cert.KernelIdeal.Val.run_values m g,
   (θ_run _ _ _).mono (fun _ h c => by
      obtain ⟨h0, h1, h2, h3, h4, h5, h6, h7⟩ := hag c
      refine ⟨(h c).1.trans ?_, (h c).2.1.trans ?_, (h c).2.2⟩
      · rw [h0, h1, h2, h3, h4, h5, h6, h7]
      · rw [h0, h1]) (Cert.ReferenceIdeal.Value.run_values m' g')⟩

/-- Every claim of the certificate. -/
theorem claim : Cert.Claim :=
  ⟨Cert.Kernel.Gen.facts, Cert.KernelIdeal.Gen.facts, Cert.ReferenceIdeal.Gen.facts,
   fun m g _ => Cert.Kernel.Gen.frame m g,
   fun m g _ => Cert.KernelIdeal.Gen.frame m g,
   fun m g _ => Cert.ReferenceIdeal.Value.frame m g,
   trivial, algebraic⟩

end Cert.Proof

end
